-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_pos_inf [hPre_no_pos_inf : Cert.Pre_no_pos_inf.Facts] (m : (ℓ : Loc Cert.KernelIdeal.nD Cert.KernelIdeal.τ Cert.KernelIdeal.sig) → Buf (Elt Ideal) ℓ) : Prop :=
  ∀ c : Dev Cert.KernelIdeal.nD,
    (Cert.Pre_no_pos_inf.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_pos_inf [hPre_no_pos_inf : Cert.Pre_no_pos_inf.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_pos_inf.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_no_pos_inf [hKernelIdeal : Cert.KernelIdeal.Facts] [hPre_no_pos_inf : Cert.Pre_no_pos_inf.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_pos_inf m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_no_pos_inf [hReferenceIdeal : Cert.ReferenceIdeal.Facts] [hPre_no_pos_inf : Cert.Pre_no_pos_inf.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_pos_inf m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_no_pos_inf [hKernelIdeal : Cert.KernelIdeal.Facts] [hReferenceIdeal : Cert.ReferenceIdeal.Facts] [hPre_no_pos_inf : Cert.Pre_no_pos_inf.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_pos_inf m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_no_pos_inf : Cert.Pre_no_pos_inf.Facts),
    quiescent_Kernel (hKernel := hKernel)
    ∧ quiescent_KernelIdeal (hKernelIdeal := hKernelIdeal)
    ∧ quiescent_KernelIdeal_pre_no_pos_inf (hKernelIdeal := hKernelIdeal) (hPre_no_pos_inf := hPre_no_pos_inf)
    ∧ quiescent_ReferenceIdeal (hReferenceIdeal := hReferenceIdeal)
    ∧ quiescent_ReferenceIdeal_pre_no_pos_inf (hReferenceIdeal := hReferenceIdeal) (hPre_no_pos_inf := hPre_no_pos_inf)
    ∧ preserves_Kernel_KernelIdeal
    ∧ algebraic_KernelIdeal_ReferenceIdeal_pre_no_pos_inf (hKernelIdeal := hKernelIdeal) (hReferenceIdeal := hReferenceIdeal) (hPre_no_pos_inf := hPre_no_pos_inf)
-- ==== Pre_no_pos_inf.lean ====
abbrev S4096x16384 : Shape := ⟨2, ![4096, 16384]⟩
abbrev S_ : Shape := ⟨0, ![]⟩

class Facts : Prop where
  bcast_S_S4096x16384 : S_.BroadcastsInDim S4096x16384 (![] : Fin 0 → Fin S4096x16384.rank)

variable [Facts]

def fn {F : FTy → Type} [FloatOps F] (main_arg0 : FVec F S4096x16384 .f32) : IVec S4096x16384 1 :=
  let main_cst : FVec F S_ .f32 := constant S_ .f32 0x7F800000#32
  let main_v0 : FVec F S4096x16384 .f32 := broadcastInDim S4096x16384 ![] bcast_S_S4096x16384 main_cst
  let main_v1 : IVec S4096x16384 1 := cmpf .olt main_arg0 main_v0
  main_v1
-- ==== Kernel.lean ====
abbrev S4096x16384 : Shape := ⟨2, ![4096, 16384]⟩
abbrev S_ : Shape := ⟨0, ![]⟩
abbrev S128x128 : Shape := ⟨2, ![128, 128]⟩
abbrev S128x256 : Shape := ⟨2, ![128, 256]⟩
abbrev S256x256 : Shape := ⟨2, ![256, 256]⟩
abbrev S4x128x8192 : Shape := ⟨3, ![4, 128, 8192]⟩
abbrev S4 : Shape := ⟨1, ![4]⟩
abbrev S1 : Shape := ⟨1, ![1]⟩
abbrev S1x128x8192 : Shape := ⟨3, ![1, 128, 8192]⟩
abbrev S128x8192 : Shape := ⟨2, ![128, 8192]⟩
abbrev S1x128x128 : Shape := ⟨3, ![1, 128, 128]⟩

abbrev nBuf : Space → Nat
  | .hbm => 17
  | .vmem => 3
  | .smem => 0
  | _ => 0

abbrev bufTy : (tb : Table) → Fin (tcTables nBuf tb) → BufTy
  | .hbm, ⟨0, _⟩ => ⟨S4096x16384, .f32⟩
  | .hbm, ⟨1, _⟩ => ⟨S_, .bf16⟩
  | .hbm, ⟨2, _⟩ => ⟨S128x128, .bf16⟩
  | .hbm, ⟨3, _⟩ => ⟨S128x128, .i32⟩
  | .hbm, ⟨4, _⟩ => ⟨S_, .i32⟩
  | .hbm, ⟨5, _⟩ => ⟨S128x128, .i32⟩
  | .hbm, ⟨6, _⟩ => ⟨S128x128, .i32⟩
  | .hbm, ⟨7, _⟩ => ⟨S128x128, .i32⟩
  | .hbm, ⟨8, _⟩ => ⟨S128x128, .i1⟩
  | .hbm, ⟨9, _⟩ => ⟨S_, .bf16⟩
  | .hbm, ⟨10, _⟩ => ⟨S128x128, .bf16⟩
  | .hbm, ⟨11, _⟩ => ⟨S128x128, .bf16⟩
  | .hbm, ⟨12, _⟩ => ⟨S_, .bf16⟩
  | .hbm, ⟨13, _⟩ => ⟨S128x128, .bf16⟩
  | .hbm, ⟨14, _⟩ => ⟨S128x256, .bf16⟩
  | .hbm, ⟨15, _⟩ => ⟨S256x256, .bf16⟩
  | .hbm, ⟨16, _⟩ => ⟨S4096x16384, .f32⟩
  | .local _ .vmem, ⟨0, _⟩ => ⟨S256x256, .bf16⟩
  | .local _ .vmem, ⟨1, _⟩ => ⟨S4x128x8192, .f32⟩
  | .local _ .vmem, ⟨2, _⟩ => ⟨S4x128x8192, .f32⟩
  | _, _ => ⟨S4096x16384, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_call0_cst : Ref sig .tc := ⟨.hbm, 1, rfl⟩
abbrev main_call0_v0 : Ref sig .tc := ⟨.hbm, 2, rfl⟩
abbrev main_call0_call0_v0 : Ref sig .tc := ⟨.hbm, 3, rfl⟩
abbrev main_call0_call0_c : Ref sig .tc := ⟨.hbm, 4, rfl⟩
abbrev main_call0_call0_v1 : Ref sig .tc := ⟨.hbm, 5, rfl⟩
abbrev main_call0_call0_v2 : Ref sig .tc := ⟨.hbm, 6, rfl⟩
abbrev main_call0_call0_v3 : Ref sig .tc := ⟨.hbm, 7, rfl⟩
abbrev main_call0_call0_v4 : Ref sig .tc := ⟨.hbm, 8, rfl⟩
abbrev main_call0_call0_cst : Ref sig .tc := ⟨.hbm, 9, rfl⟩
abbrev main_call0_call0_v5 : Ref sig .tc := ⟨.hbm, 10, rfl⟩
abbrev main_call0_v1 : Ref sig .tc := ⟨.hbm, 11, rfl⟩
abbrev main_call0_cst_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v0 : Ref sig .tc := ⟨.hbm, 16, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0

abbrev nD : Nat := 1
abbrev τ : Topo := Topo.v7x

variable {F : FTy → Type} [FloatOps F]

abbrev grid0 : Pipeline.Grid := .none

@[reducible] def k0_t1_loop : Scf.Loop 32 :=
  let c0_i32_19 : BitVec 32 := 0#32
  let c64_i32 : BitVec 32 := 64#32
  let v23 : BitVec 32 := Scalar.addi c0_i32_19 c64_i32
  let c1_i32_20 : BitVec 32 := 1#32
  ⟨c0_i32_19, v23, c1_i32_20⟩
def k0_off1 (k0_t1 : Fin k0_t1_loop.trips) : Fin 1 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  ![v54.toNat]
def k0_off2 (k0_t1 : Fin k0_t1_loop.trips) : Fin 3 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  let c0_i32_72 : BitVec 32 := 0#32
  let c0_i32_73 : BitVec 32 := 0#32
  ![v54.toNat, 0, 0]
def k0_off3 (k0_t1 : Fin k0_t1_loop.trips) : Fin 2 → Nat :=
  let c0_i32_19 : BitVec 32 := 0#32
  let c1_i32_20 : BitVec 32 := 1#32
  let arg7 : BitVec 32 := Scf.iv c0_i32_19 c1_i32_20 k0_t1
  let c0_i32_58 : BitVec 32 := 0#32
  let v69 : BitVec 1 := Scalar.cmpi .sgt arg7 c0_i32_58
  let v70 : BitVec 32 := Scalar.extui v69
  let c0_i32_59 : BitVec 32 := 0#32
  let v71 : BitVec 1 := Scalar.cmpi .slt arg7 c0_i32_59
  let v72 : BitVec 32 := Scalar.extui v71
  let v73 : BitVec 32 := Scalar.subi v70 v72
  let c2_i32_57 : BitVec 32 := 2#32
  let c0_i32_60 : BitVec 32 := 0#32
  let v74 : BitVec 1 := Scalar.cmpi .sgt c2_i32_57 c0_i32_60
  let v75 : BitVec 32 := Scalar.extui v74
  let c0_i32_61 : BitVec 32 := 0#32
  let v76 : BitVec 1 := Scalar.cmpi .slt c2_i32_57 c0_i32_61
  let v77 : BitVec 32 := Scalar.extui v76
  let v78 : BitVec 32 := Scalar.subi v75 v77
  let v79 : BitVec 1 := Scalar.cmpi .ne v73 v78
  let v80 : BitVec 32 := Scalar.remsi arg7 c2_i32_57
  let c0_i32_62 : BitVec 32 := 0#32
  let v81 : BitVec 1 := Scalar.cmpi .ne v80 c0_i32_62
  let v82 : BitVec 1 := Scalar.andi v79 v81
  let v68 : BitVec 32 := Scalar.divsi arg7 c2_i32_57
  let c1_i32_63 : BitVec 32 := 1#32
  let v83 : BitVec 32 := Scalar.subi v68 c1_i32_63
  let v84 : BitVec 32 := Scalar.select v82 v83 v68
  let c128_i32_70 : BitVec 32 := 128#32
  let v95 : BitVec 32 := Scalar.muli v84 c128_i32_70
  let c2_i32_64 : BitVec 32 := 2#32
  let c0_i32_65 : BitVec 32 := 0#32
  let v85 : BitVec 1 := Scalar.cmpi .eq c2_i32_64 c0_i32_65
  let c1_i32_66 : BitVec 32 := 1#32
  let v86 : BitVec 32 := Scalar.select v85 c1_i32_66 c2_i32_64
  let v87 : BitVec 32 := Scalar.remsi arg7 v86
  let c0_i32_68 : BitVec 32 := 0#32
  let v89 : BitVec 1 := Scalar.cmpi .slt v87 c0_i32_68
  let c0_i32_69 : BitVec 32 := 0#32
  let v90 : BitVec 1 := Scalar.cmpi .slt v86 c0_i32_69
  let v91 : BitVec 1 := Scalar.xori v89 v90
  let c0_i32_67 : BitVec 32 := 0#32
  let v88 : BitVec 1 := Scalar.cmpi .ne v87 c0_i32_67
  let v92 : BitVec 1 := Scalar.andi v91 v88
  let v93 : BitVec 32 := Scalar.addi v87 v86
  let v94 : BitVec 32 := Scalar.select v92 v93 v87
  let c8192_i32_71 : BitVec 32 := 8192#32
  let v96 : BitVec 32 := Scalar.muli v94 c8192_i32_71
  ![v95.toNat, v96.toNat]
def k0_cond1 (k0_t1 : Fin k0_t1_loop.trips) : BitVec 1 :=
  let c0_i32_19 : BitVec 32 := 0#32
  let c1_i32_20 : BitVec 32 := 1#32
  let arg7 : BitVec 32 := Scf.iv c0_i32_19 c1_i32_20 k0_t1
  let c4_i32_74 : BitVec 32 := 4#32
  let v102 : BitVec 1 := Scalar.cmpi .sge arg7 c4_i32_74
  let v103 : BitVec 32 := Scalar.extui v102
  let c0_i32_75 : BitVec 32 := 0#32
  let v104 : BitVec 1 := Scalar.cmpi .ne v103 c0_i32_75
  v104

def k0_off4 (k0_t1 : Fin k0_t1_loop.trips) : Fin 1 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  ![v54.toNat]
def k0_off5 (k0_t1 : Fin k0_t1_loop.trips) : Fin 2 → Nat :=
  let c0_i32_19 : BitVec 32 := 0#32
  let c1_i32_20 : BitVec 32 := 1#32
  let arg7 : BitVec 32 := Scf.iv c0_i32_19 c1_i32_20 k0_t1
  let c4_i32_353 : BitVec 32 := 4#32
  let v1231 : BitVec 32 := Scalar.subi arg7 c4_i32_353
  let c0_i32_355 : BitVec 32 := 0#32
  let v1233 : BitVec 1 := Scalar.cmpi .sgt v1231 c0_i32_355
  let v1234 : BitVec 32 := Scalar.extui v1233
  let c0_i32_356 : BitVec 32 := 0#32
  let v1235 : BitVec 1 := Scalar.cmpi .slt v1231 c0_i32_356
  let v1236 : BitVec 32 := Scalar.extui v1235
  let v1237 : BitVec 32 := Scalar.subi v1234 v1236
  let c2_i32_354 : BitVec 32 := 2#32
  let c0_i32_357 : BitVec 32 := 0#32
  let v1238 : BitVec 1 := Scalar.cmpi .sgt c2_i32_354 c0_i32_357
  let v1239 : BitVec 32 := Scalar.extui v1238
  let c0_i32_358 : BitVec 32 := 0#32
  let v1240 : BitVec 1 := Scalar.cmpi .slt c2_i32_354 c0_i32_358
  let v1241 : BitVec 32 := Scalar.extui v1240
  let v1242 : BitVec 32 := Scalar.subi v1239 v1241
  let v1243 : BitVec 1 := Scalar.cmpi .ne v1237 v1242
  let v1244 : BitVec 32 := Scalar.remsi v1231 c2_i32_354
  let c0_i32_359 : BitVec 32 := 0#32
  let v1245 : BitVec 1 := Scalar.cmpi .ne v1244 c0_i32_359
  let v1246 : BitVec 1 := Scalar.andi v1243 v1245
  let v1232 : BitVec 32 := Scalar.divsi v1231 c2_i32_354
  let c1_i32_360 : BitVec 32 := 1#32
  let v1247 : BitVec 32 := Scalar.subi v1232 c1_i32_360
  let v1248 : BitVec 32 := Scalar.select v1246 v1247 v1232
  let c128_i32_367 : BitVec 32 := 128#32
  let v1259 : BitVec 32 := Scalar.muli v1248 c128_i32_367
  let c2_i32_361 : BitVec 32 := 2#32
  let c0_i32_362 : BitVec 32 := 0#32
  let v1249 : BitVec 1 := Scalar.cmpi .eq c2_i32_361 c0_i32_362
  let c1_i32_363 : BitVec 32 := 1#32
  let v1250 : BitVec 32 := Scalar.select v1249 c1_i32_363 c2_i32_361
  let v1251 : BitVec 32 := Scalar.remsi v1231 v1250
  let c0_i32_365 : BitVec 32 := 0#32
  let v1253 : BitVec 1 := Scalar.cmpi .slt v1251 c0_i32_365
  let c0_i32_366 : BitVec 32 := 0#32
  let v1254 : BitVec 1 := Scalar.cmpi .slt v1250 c0_i32_366
  let v1255 : BitVec 1 := Scalar.xori v1253 v1254
  let c0_i32_364 : BitVec 32 := 0#32
  let v1252 : BitVec 1 := Scalar.cmpi .ne v1251 c0_i32_364
  let v1256 : BitVec 1 := Scalar.andi v1255 v1252
  let v1257 : BitVec 32 := Scalar.addi v1251 v1250
  let v1258 : BitVec 32 := Scalar.select v1256 v1257 v1251
  let c8192_i32_368 : BitVec 32 := 8192#32
  let v1260 : BitVec 32 := Scalar.muli v1258 c8192_i32_368
  ![v1259.toNat, v1260.toNat]
def k0_off6 (k0_t1 : Fin k0_t1_loop.trips) : Fin 3 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  let c0_i32_369 : BitVec 32 := 0#32
  let c0_i32_370 : BitVec 32 := 0#32
  ![v54.toNat, 0, 0]
def k0_off7 (k0_t1 : Fin k0_t1_loop.trips) : Fin 3 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  let v105 : Index := Scalar.indexCast v54
  let c0_76 : Index := 0#32
  let c0_77 : Index := 0#32
  ![v105.toNat, 0, 0]
def k0_off8 (k0_t1 : Fin k0_t1_loop.trips) : Fin 3 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  let v122 : Index := Scalar.indexCast v54
  let c0_81 : Index := 0#32
  let c128 : Index := 128#32
  ![v122.toNat, 0, 128]
def k0_off9 (k0_t1 : Fin k0_t1_loop.trips) : Fin 3 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  let v139 : Index := Scalar.indexCast v54
  let c0_85 : Index := 0#32
  let c256 : Index := 256#32
  ![v139.toNat, 0, 256]
def k0_off10 (k0_t1 : Fin k0_t1_loop.trips) : Fin 3 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  let v156 : Index := Scalar.indexCast v54
  let c0_89 : Index := 0#32
  let c384 : Index := 384#32
  ![v156.toNat, 0, 384]
def k0_off11 (k0_t1 : Fin k0_t1_loop.trips) : Fin 3 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  let v173 : Index := Scalar.indexCast v54
  let c0_93 : Index := 0#32
  let c512 : Index := 512#32
  ![v173.toNat, 0, 512]
def k0_off12 (k0_t1 : Fin k0_t1_loop.trips) : Fin 3 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  let v190 : Index := Scalar.indexCast v54
  let c0_97 : Index := 0#32
  let c640 : Index := 640#32
  ![v190.toNat, 0, 640]
def k0_off13 (k0_t1 : Fin k0_t1_loop.trips) : Fin 3 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  let v207 : Index := Scalar.indexCast v54
  let c0_101 : Index := 0#32
  let c768 : Index := 768#32
  ![v207.toNat, 0, 768]
def k0_off14 (k0_t1 : Fin k0_t1_loop.trips) : Fin 3 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  let v224 : Index := Scalar.indexCast v54
  let c0_105 : Index := 0#32
  let c896 : Index := 896#32
  ![v224.toNat, 0, 896]
def k0_off15 (k0_t1 : Fin k0_t1_loop.trips) : Fin 3 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  let v241 : Index := Scalar.indexCast v54
  let c0_109 : Index := 0#32
  let c1024 : Index := 1024#32
  ![v241.toNat, 0, 1024]
def k0_off16 (k0_t1 : Fin k0_t1_loop.trips) : Fin 3 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  let v258 : Index := Scalar.indexCast v54
  let c0_113 : Index := 0#32
  let c1152 : Index := 1152#32
  ![v258.toNat, 0, 1152]
def k0_off17 (k0_t1 : Fin k0_t1_loop.trips) : Fin 3 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  let v275 : Index := Scalar.indexCast v54
  let c0_117 : Index := 0#32
  let c1280 : Index := 1280#32
  ![v275.toNat, 0, 1280]
def k0_off18 (k0_t1 : Fin k0_t1_loop.trips) : Fin 3 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  let v292 : Index := Scalar.indexCast v54
  let c0_121 : Index := 0#32
  let c1408 : Index := 1408#32
  ![v292.toNat, 0, 1408]
def k0_off19 (k0_t1 : Fin k0_t1_loop.trips) : Fin 3 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  let v309 : Index := Scalar.indexCast v54
  let c0_125 : Index := 0#32
  let c1536 : Index := 1536#32
  ![v309.toNat, 0, 1536]
def k0_off20 (k0_t1 : Fin k0_t1_loop.trips) : Fin 3 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  let v326 : Index := Scalar.indexCast v54
  let c0_129 : Index := 0#32
  let c1664 : Index := 1664#32
  ![v326.toNat, 0, 1664]
def k0_off21 (k0_t1 : Fin k0_t1_loop.trips) : Fin 3 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  let v343 : Index := Scalar.indexCast v54
  let c0_133 : Index := 0#32
  let c1792 : Index := 1792#32
  ![v343.toNat, 0, 1792]
def k0_off22 (k0_t1 : Fin k0_t1_loop.trips) : Fin 3 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  let v360 : Index := Scalar.indexCast v54
  let c0_137 : Index := 0#32
  let c1920 : Index := 1920#32
  ![v360.toNat, 0, 1920]
def k0_off23 (k0_t1 : Fin k0_t1_loop.trips) : Fin 3 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  let v377 : Index := Scalar.indexCast v54
  let c0_141 : Index := 0#32
  let c2048 : Index := 2048#32
  ![v377.toNat, 0, 2048]
def k0_off24 (k0_t1 : Fin k0_t1_loop.trips) : Fin 3 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  let v394 : Index := Scalar.indexCast v54
  let c0_145 : Index := 0#32
  let c2176 : Index := 2176#32
  ![v394.toNat, 0, 2176]
def k0_off25 (k0_t1 : Fin k0_t1_loop.trips) : Fin 3 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  let v411 : Index := Scalar.indexCast v54
  let c0_149 : Index := 0#32
  let c2304 : Index := 2304#32
  ![v411.toNat, 0, 2304]
def k0_off26 (k0_t1 : Fin k0_t1_loop.trips) : Fin 3 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  let v428 : Index := Scalar.indexCast v54
  let c0_153 : Index := 0#32
  let c2432 : Index := 2432#32
  ![v428.toNat, 0, 2432]
def k0_off27 (k0_t1 : Fin k0_t1_loop.trips) : Fin 3 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  let v445 : Index := Scalar.indexCast v54
  let c0_157 : Index := 0#32
  let c2560 : Index := 2560#32
  ![v445.toNat, 0, 2560]
def k0_off28 (k0_t1 : Fin k0_t1_loop.trips) : Fin 3 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  let v462 : Index := Scalar.indexCast v54
  let c0_161 : Index := 0#32
  let c2688 : Index := 2688#32
  ![v462.toNat, 0, 2688]
def k0_off29 (k0_t1 : Fin k0_t1_loop.trips) : Fin 3 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  let v479 : Index := Scalar.indexCast v54
  let c0_165 : Index := 0#32
  let c2816 : Index := 2816#32
  ![v479.toNat, 0, 2816]
def k0_off30 (k0_t1 : Fin k0_t1_loop.trips) : Fin 3 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  let v496 : Index := Scalar.indexCast v54
  let c0_169 : Index := 0#32
  let c2944 : Index := 2944#32
  ![v496.toNat, 0, 2944]
def k0_off31 (k0_t1 : Fin k0_t1_loop.trips) : Fin 3 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  let v513 : Index := Scalar.indexCast v54
  let c0_173 : Index := 0#32
  let c3072 : Index := 3072#32
  ![v513.toNat, 0, 3072]
def k0_off32 (k0_t1 : Fin k0_t1_loop.trips) : Fin 3 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  let v530 : Index := Scalar.indexCast v54
  let c0_177 : Index := 0#32
  let c3200 : Index := 3200#32
  ![v530.toNat, 0, 3200]
def k0_off33 (k0_t1 : Fin k0_t1_loop.trips) : Fin 3 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  let v547 : Index := Scalar.indexCast v54
  let c0_181 : Index := 0#32
  let c3328 : Index := 3328#32
  ![v547.toNat, 0, 3328]
def k0_off34 (k0_t1 : Fin k0_t1_loop.trips) : Fin 3 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  let v564 : Index := Scalar.indexCast v54
  let c0_185 : Index := 0#32
  let c3456 : Index := 3456#32
  ![v564.toNat, 0, 3456]
def k0_off35 (k0_t1 : Fin k0_t1_loop.trips) : Fin 3 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  let v581 : Index := Scalar.indexCast v54
  let c0_189 : Index := 0#32
  let c3584 : Index := 3584#32
  ![v581.toNat, 0, 3584]
def k0_off36 (k0_t1 : Fin k0_t1_loop.trips) : Fin 3 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  let v598 : Index := Scalar.indexCast v54
  let c0_193 : Index := 0#32
  let c3712 : Index := 3712#32
  ![v598.toNat, 0, 3712]
def k0_off37 (k0_t1 : Fin k0_t1_loop.trips) : Fin 3 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  let v615 : Index := Scalar.indexCast v54
  let c0_197 : Index := 0#32
  let c3840 : Index := 3840#32
  ![v615.toNat, 0, 3840]
def k0_off38 (k0_t1 : Fin k0_t1_loop.trips) : Fin 3 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  let v632 : Index := Scalar.indexCast v54
  let c0_201 : Index := 0#32
  let c3968 : Index := 3968#32
  ![v632.toNat, 0, 3968]
def k0_off39 (k0_t1 : Fin k0_t1_loop.trips) : Fin 3 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  let v649 : Index := Scalar.indexCast v54
  let c0_205 : Index := 0#32
  let c4096 : Index := 4096#32
  ![v649.toNat, 0, 4096]
def k0_off40 (k0_t1 : Fin k0_t1_loop.trips) : Fin 3 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  let v666 : Index := Scalar.indexCast v54
  let c0_209 : Index := 0#32
  let c4224 : Index := 4224#32
  ![v666.toNat, 0, 4224]
def k0_off41 (k0_t1 : Fin k0_t1_loop.trips) : Fin 3 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  let v683 : Index := Scalar.indexCast v54
  let c0_213 : Index := 0#32
  let c4352 : Index := 4352#32
  ![v683.toNat, 0, 4352]
def k0_off42 (k0_t1 : Fin k0_t1_loop.trips) : Fin 3 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  let v700 : Index := Scalar.indexCast v54
  let c0_217 : Index := 0#32
  let c4480 : Index := 4480#32
  ![v700.toNat, 0, 4480]
def k0_off43 (k0_t1 : Fin k0_t1_loop.trips) : Fin 3 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  let v717 : Index := Scalar.indexCast v54
  let c0_221 : Index := 0#32
  let c4608 : Index := 4608#32
  ![v717.toNat, 0, 4608]
def k0_off44 (k0_t1 : Fin k0_t1_loop.trips) : Fin 3 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  let v734 : Index := Scalar.indexCast v54
  let c0_225 : Index := 0#32
  let c4736 : Index := 4736#32
  ![v734.toNat, 0, 4736]
def k0_off45 (k0_t1 : Fin k0_t1_loop.trips) : Fin 3 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  let v751 : Index := Scalar.indexCast v54
  let c0_229 : Index := 0#32
  let c4864 : Index := 4864#32
  ![v751.toNat, 0, 4864]
def k0_off46 (k0_t1 : Fin k0_t1_loop.trips) : Fin 3 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  let v768 : Index := Scalar.indexCast v54
  let c0_233 : Index := 0#32
  let c4992 : Index := 4992#32
  ![v768.toNat, 0, 4992]
def k0_off47 (k0_t1 : Fin k0_t1_loop.trips) : Fin 3 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  let v785 : Index := Scalar.indexCast v54
  let c0_237 : Index := 0#32
  let c5120 : Index := 5120#32
  ![v785.toNat, 0, 5120]
def k0_off48 (k0_t1 : Fin k0_t1_loop.trips) : Fin 3 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  let v802 : Index := Scalar.indexCast v54
  let c0_241 : Index := 0#32
  let c5248 : Index := 5248#32
  ![v802.toNat, 0, 5248]
def k0_off49 (k0_t1 : Fin k0_t1_loop.trips) : Fin 3 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  let v819 : Index := Scalar.indexCast v54
  let c0_245 : Index := 0#32
  let c5376 : Index := 5376#32
  ![v819.toNat, 0, 5376]
def k0_off50 (k0_t1 : Fin k0_t1_loop.trips) : Fin 3 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  let v836 : Index := Scalar.indexCast v54
  let c0_249 : Index := 0#32
  let c5504 : Index := 5504#32
  ![v836.toNat, 0, 5504]
def k0_off51 (k0_t1 : Fin k0_t1_loop.trips) : Fin 3 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  let v853 : Index := Scalar.indexCast v54
  let c0_253 : Index := 0#32
  let c5632 : Index := 5632#32
  ![v853.toNat, 0, 5632]
def k0_off52 (k0_t1 : Fin k0_t1_loop.trips) : Fin 3 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  let v870 : Index := Scalar.indexCast v54
  let c0_257 : Index := 0#32
  let c5760 : Index := 5760#32
  ![v870.toNat, 0, 5760]
def k0_off53 (k0_t1 : Fin k0_t1_loop.trips) : Fin 3 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  let v887 : Index := Scalar.indexCast v54
  let c0_261 : Index := 0#32
  let c5888 : Index := 5888#32
  ![v887.toNat, 0, 5888]
def k0_off54 (k0_t1 : Fin k0_t1_loop.trips) : Fin 3 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  let v904 : Index := Scalar.indexCast v54
  let c0_265 : Index := 0#32
  let c6016 : Index := 6016#32
  ![v904.toNat, 0, 6016]
def k0_off55 (k0_t1 : Fin k0_t1_loop.trips) : Fin 3 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  let v921 : Index := Scalar.indexCast v54
  let c0_269 : Index := 0#32
  let c6144 : Index := 6144#32
  ![v921.toNat, 0, 6144]
def k0_off56 (k0_t1 : Fin k0_t1_loop.trips) : Fin 3 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  let v938 : Index := Scalar.indexCast v54
  let c0_273 : Index := 0#32
  let c6272 : Index := 6272#32
  ![v938.toNat, 0, 6272]
def k0_off57 (k0_t1 : Fin k0_t1_loop.trips) : Fin 3 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  let v955 : Index := Scalar.indexCast v54
  let c0_277 : Index := 0#32
  let c6400 : Index := 6400#32
  ![v955.toNat, 0, 6400]
def k0_off58 (k0_t1 : Fin k0_t1_loop.trips) : Fin 3 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  let v972 : Index := Scalar.indexCast v54
  let c0_281 : Index := 0#32
  let c6528 : Index := 6528#32
  ![v972.toNat, 0, 6528]
def k0_off59 (k0_t1 : Fin k0_t1_loop.trips) : Fin 3 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  let v989 : Index := Scalar.indexCast v54
  let c0_285 : Index := 0#32
  let c6656 : Index := 6656#32
  ![v989.toNat, 0, 6656]
def k0_off60 (k0_t1 : Fin k0_t1_loop.trips) : Fin 3 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  let v1006 : Index := Scalar.indexCast v54
  let c0_289 : Index := 0#32
  let c6784 : Index := 6784#32
  ![v1006.toNat, 0, 6784]
def k0_off61 (k0_t1 : Fin k0_t1_loop.trips) : Fin 3 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  let v1023 : Index := Scalar.indexCast v54
  let c0_293 : Index := 0#32
  let c6912 : Index := 6912#32
  ![v1023.toNat, 0, 6912]
def k0_off62 (k0_t1 : Fin k0_t1_loop.trips) : Fin 3 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  let v1040 : Index := Scalar.indexCast v54
  let c0_297 : Index := 0#32
  let c7040 : Index := 7040#32
  ![v1040.toNat, 0, 7040]
def k0_off63 (k0_t1 : Fin k0_t1_loop.trips) : Fin 3 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  let v1057 : Index := Scalar.indexCast v54
  let c0_301 : Index := 0#32
  let c7168 : Index := 7168#32
  ![v1057.toNat, 0, 7168]
def k0_off64 (k0_t1 : Fin k0_t1_loop.trips) : Fin 3 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  let v1074 : Index := Scalar.indexCast v54
  let c0_305 : Index := 0#32
  let c7296 : Index := 7296#32
  ![v1074.toNat, 0, 7296]
def k0_off65 (k0_t1 : Fin k0_t1_loop.trips) : Fin 3 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  let v1091 : Index := Scalar.indexCast v54
  let c0_309 : Index := 0#32
  let c7424 : Index := 7424#32
  ![v1091.toNat, 0, 7424]
def k0_off66 (k0_t1 : Fin k0_t1_loop.trips) : Fin 3 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  let v1108 : Index := Scalar.indexCast v54
  let c0_313 : Index := 0#32
  let c7552 : Index := 7552#32
  ![v1108.toNat, 0, 7552]
def k0_off67 (k0_t1 : Fin k0_t1_loop.trips) : Fin 3 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  let v1125 : Index := Scalar.indexCast v54
  let c0_317 : Index := 0#32
  let c7680 : Index := 7680#32
  ![v1125.toNat, 0, 7680]
def k0_off68 (k0_t1 : Fin k0_t1_loop.trips) : Fin 3 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  let v1142 : Index := Scalar.indexCast v54
  let c0_321 : Index := 0#32
  let c7808 : Index := 7808#32
  ![v1142.toNat, 0, 7808]
def k0_off69 (k0_t1 : Fin k0_t1_loop.trips) : Fin 3 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  let v1159 : Index := Scalar.indexCast v54
  let c0_325 : Index := 0#32
  let c7936 : Index := 7936#32
  ![v1159.toNat, 0, 7936]
def k0_off70 (k0_t1 : Fin k0_t1_loop.trips) : Fin 3 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  let v1176 : Index := Scalar.indexCast v54
  let c0_329 : Index := 0#32
  let c8064 : Index := 8064#32
  ![v1176.toNat, 0, 8064]
def k0_cond2 (k0_t1 : Fin k0_t1_loop.trips) : BitVec 1 :=
  let c0_i32_19 : BitVec 32 := 0#32
  let c1_i32_20 : BitVec 32 := 1#32
  let arg7 : BitVec 32 := Scf.iv c0_i32_19 c1_i32_20 k0_t1
  let c4_i32_350 : BitVec 32 := 4#32
  let v1227 : BitVec 32 := Scalar.addi arg7 c4_i32_350
  let c64_i32_351 : BitVec 32 := 64#32
  let v1228 : BitVec 1 := Scalar.cmpi .slt v1227 c64_i32_351
  let v1229 : BitVec 32 := Scalar.extui v1228
  let c0_i32_352 : BitVec 32 := 0#32
  let v1230 : BitVec 1 := Scalar.cmpi .ne v1229 c0_i32_352
  v1230

def k0_off71 (k0_t1 : Fin k0_t1_loop.trips) : Fin 1 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  ![v54.toNat]
def k0_off72 (k0_t1 : Fin k0_t1_loop.trips) : Fin 3 → Nat :=
  let c0_i32_19 : BitVec 32 := 0#32
  let c1_i32_20 : BitVec 32 := 1#32
  let arg7 : BitVec 32 := Scf.iv c0_i32_19 c1_i32_20 k0_t1
  let c4_i32 : BitVec 32 := 4#32
  let c0_i32_44 : BitVec 32 := 0#32
  let v45 : BitVec 1 := Scalar.cmpi .eq c4_i32 c0_i32_44
  let c1_i32_45 : BitVec 32 := 1#32
  let v46 : BitVec 32 := Scalar.select v45 c1_i32_45 c4_i32
  let v47 : BitVec 32 := Scalar.remsi arg7 v46
  let c0_i32_47 : BitVec 32 := 0#32
  let v49 : BitVec 1 := Scalar.cmpi .slt v47 c0_i32_47
  let c0_i32_48 : BitVec 32 := 0#32
  let v50 : BitVec 1 := Scalar.cmpi .slt v46 c0_i32_48
  let v51 : BitVec 1 := Scalar.xori v49 v50
  let c0_i32_46 : BitVec 32 := 0#32
  let v48 : BitVec 1 := Scalar.cmpi .ne v47 c0_i32_46
  let v52 : BitVec 1 := Scalar.andi v51 v48
  let v53 : BitVec 32 := Scalar.addi v47 v46
  let v54 : BitVec 32 := Scalar.select v52 v53 v47
  let c0_i32_369 : BitVec 32 := 0#32
  let c0_i32_370 : BitVec 32 := 0#32
  ![v54.toNat, 0, 0]
def k0_off73 (k0_t1 : Fin k0_t1_loop.trips) : Fin 2 → Nat :=
  let c0_i32_19 : BitVec 32 := 0#32
  let c1_i32_20 : BitVec 32 := 1#32
  let arg7 : BitVec 32 := Scf.iv c0_i32_19 c1_i32_20 k0_t1
  let c4_i32_353 : BitVec 32 := 4#32
  let v1231 : BitVec 32 := Scalar.addi arg7 c4_i32_353
  let c0_i32_355 : BitVec 32 := 0#32
  let v1233 : BitVec 1 := Scalar.cmpi .sgt v1231 c0_i32_355
  let v1234 : BitVec 32 := Scalar.extui v1233
  let c0_i32_356 : BitVec 32 := 0#32
  let v1235 : BitVec 1 := Scalar.cmpi .slt v1231 c0_i32_356
  let v1236 : BitVec 32 := Scalar.extui v1235
  let v1237 : BitVec 32 := Scalar.subi v1234 v1236
  let c2_i32_354 : BitVec 32 := 2#32
  let c0_i32_357 : BitVec 32 := 0#32
  let v1238 : BitVec 1 := Scalar.cmpi .sgt c2_i32_354 c0_i32_357
  let v1239 : BitVec 32 := Scalar.extui v1238
  let c0_i32_358 : BitVec 32 := 0#32
  let v1240 : BitVec 1 := Scalar.cmpi .slt c2_i32_354 c0_i32_358
  let v1241 : BitVec 32 := Scalar.extui v1240
  let v1242 : BitVec 32 := Scalar.subi v1239 v1241
  let v1243 : BitVec 1 := Scalar.cmpi .ne v1237 v1242
  let v1244 : BitVec 32 := Scalar.remsi v1231 c2_i32_354
  let c0_i32_359 : BitVec 32 := 0#32
  let v1245 : BitVec 1 := Scalar.cmpi .ne v1244 c0_i32_359
  let v1246 : BitVec 1 := Scalar.andi v1243 v1245
  let v1232 : BitVec 32 := Scalar.divsi v1231 c2_i32_354
  let c1_i32_360 : BitVec 32 := 1#32
  let v1247 : BitVec 32 := Scalar.subi v1232 c1_i32_360
  let v1248 : BitVec 32 := Scalar.select v1246 v1247 v1232
  let c128_i32_367 : BitVec 32 := 128#32
  let v1259 : BitVec 32 := Scalar.muli v1248 c128_i32_367
  let c2_i32_361 : BitVec 32 := 2#32
  let c0_i32_362 : BitVec 32 := 0#32
  let v1249 : BitVec 1 := Scalar.cmpi .eq c2_i32_361 c0_i32_362
  let c1_i32_363 : BitVec 32 := 1#32
  let v1250 : BitVec 32 := Scalar.select v1249 c1_i32_363 c2_i32_361
  let v1251 : BitVec 32 := Scalar.remsi v1231 v1250
  let c0_i32_365 : BitVec 32 := 0#32
  let v1253 : BitVec 1 := Scalar.cmpi .slt v1251 c0_i32_365
  let c0_i32_366 : BitVec 32 := 0#32
  let v1254 : BitVec 1 := Scalar.cmpi .slt v1250 c0_i32_366
  let v1255 : BitVec 1 := Scalar.xori v1253 v1254
  let c0_i32_364 : BitVec 32 := 0#32
  let v1252 : BitVec 1 := Scalar.cmpi .ne v1251 c0_i32_364
  let v1256 : BitVec 1 := Scalar.andi v1255 v1252
  let v1257 : BitVec 32 := Scalar.addi v1251 v1250
  let v1258 : BitVec 32 := Scalar.select v1256 v1257 v1251
  let c8192_i32_368 : BitVec 32 := 8192#32
  let v1260 : BitVec 32 := Scalar.muli v1258 c8192_i32_368
  ![v1259.toNat, v1260.toNat]
abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x16384 : Shape := ⟨2, ![4096, 16384]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S_, .f32⟩
  | .hbm, ⟨2, _⟩ => ⟨S_, .f32⟩
  | .hbm, ⟨3, _⟩ => ⟨S4096x16384, .f32⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Proof.K.Pieces.lean ====
/-
  The pieces of memory and the cells a trip of the loop owns, by name.
-/
module

public import proofs.«01_k».proof.Proof.K.Names

@[expose] public section

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The region's ghost state: the pipeline's own, beside the counters of the kernel's transfers. -/
abbrev UU (nD : ℕ) (τ : Topo) : Type := UR sig nD τ × Counters
local notation "𝕄" => MT nD τ sig Unit (Elt F) ℕ (UU nD τ) ℕ
/-- Where the rounds' ghost state sits in the whole. -/
abbrev EP : Emb (UR sig nD τ) (MT nD τ sig Unit (Elt F) ℕ (UU nD τ) ℕ) := embL
/-- No loop needs a variant. -/
abbrev 𝒱₀ : Variants := Variants.none

/-- A buffer of floats in block form. -/
abbrev Blk (F : FTy → Type) := Vec F S128x8192 .f32

variable (c : Dev nD) (XA : Buf (Elt F) (xM.view.loc (c : Thread nD τ)))

/-- Slot `s` of the input buffer, holding `f`; -/
abbrev inP (s : Fin 4) (f : Buf (Elt F) ((inSlot s).view.loc (c : Thread nD τ))) : sProp 𝕄 :=
  iprop((inSlot s).view.loc (c : Thread nD τ) ↦[(inSlot s).view.set]{fullShare} f)
/-- of the output buffer. -/
abbrev outP (s : Fin 4) (f : Buf (Elt F) ((outSlot s).view.loc (c : Thread nD τ))) : sProp 𝕄 :=
  iprop((outSlot s).view.loc (c : Thread nD τ) ↦[(outSlot s).view.set]{fullShare} f)
/-- Block `b` of the operand, holding the operand; -/
abbrev xP (b : Fin 64) : sProp 𝕄 := iprop((xblk b).view.loc (c : Thread nD τ) ↦[(xblk b).view.set]{fullShare} XA)
/-- of the result, holding `f`. -/
abbrev oP (b : Fin 64) (f : Buf (Elt F) ((oblk b).view.loc (c : Thread nD τ))) : sProp 𝕄 :=
  iprop((oblk b).view.loc (c : Thread nD τ) ↦[(oblk b).view.set]{fullShare} f)
/-- An idle semaphore of the input ring; -/
abbrev inC (s : Fin 4) : sProp 𝕄 := semVal ((c : Thread nD τ), SemLoc.dma (inSem s).sem) 0
/-- of the output ring. -/
abbrev outC (s : Fin 4) : sProp 𝕄 := semVal ((c : Thread nD τ), SemLoc.dma (outSem s).sem) 0

/-- Block `b` of the operand, as a block. -/
def xval (b : Fin 64) : Blk F := (xblk b).view.read (Elt F) XA

end Cert.Proof.K

end
-- ==== Proof.KI.Body.lean ====
/-
  The loop's region as one uniform sequence: wait, 64 like chunks, start. The printed region lists the 64 column chunks one
  after another; here a chunk is ONE definition at a chunk number, and the printed region is shown equal to the
  sequence of chunks (`body_eq`), so that the proof of a trip is one proof of a chunk and an induction on their number.
-/
module

public import proofs.«01_k».proof.Proof.Gen.KernelIdeal.Skeleton

@[expose] public section

noncomputable section

namespace Cert.Proof.KI

open Cert.KernelIdeal Cert.KernelIdeal.Gen
open Idealize.ShloMosaic Idealize.SL.Sem

variable {F : FTy → Type} [FloatOps F]

/-! ## The offsets of a chunk -/

/-- Chunk `c`'s offsets in a slot buffer at trip `k`: the trip's slot, row 0, column `128 c`. -/
abbrev chOff (k : Fin k0_t1_loop.trips) (c : Fin 64) : Fin 3 → ℕ := ![k0_off7 k 0, 0, 128 * c.val]

/-- A chunk lies inside its slot's buffer. -/
theorem chOff_inb (k : Fin k0_t1_loop.trips) (c : Fin 64) : ∀ a, chOff k c a + S1x128x128.size a ≤ S4x128x8192.size a := by
  have h := k0_off7_inb k 0
  have := c.isLt
  intro a; fin_cases a
  · exact h
  · show 0 + 128 ≤ 128; omega
  · show 128 * c.val + 128 ≤ 8192; omega

section Body

variable (arg0 : Memref sig .tc .hbm S4096x16384 .f32) (harg0 : arg0.IsWhole) (arg1 : Memref sig .tc .vmem S256x256 .bf16)
  (harg1 : arg1.IsWhole) (arg2 : Memref sig .tc .hbm S4096x16384 .f32) (harg2 : arg2.IsWhole)
  (arg3 : Memref sig .tc .vmem S4x128x8192 .f32) (harg3 : arg3.IsWhole) (arg4 : Memref sig .tc .vmem S4x128x8192 .f32)
  (harg4 : arg4.IsWhole) (arg5 : DmaSems sig S4) (arg6 : DmaSems sig S4) (v1 : FVec F S256x256 .bf16)

/-- Chunk `c` of trip `k`, from the carry `acc`: load the chunk of the input slot, store the chunk's result, hand on the next carry. -/
def chunkP (k : Fin k0_t1_loop.trips) (c : Fin 64) (acc : FVec F S128x128 .f32) :
    Prog (TpuEff nD τ sig (Elt F) Λ₀ .tc) (FVec F S128x128 .f32) := do
  let xc : Vec F S1x128x128 .f32 ← Prog.lift (.load arg3 (Rect.unit (s := S4x128x8192) (chOff k c) S1x128x128.size (chOff_inb k c)).toLoadRect (View.loadsAt_vmem h_S1x128x128))
  let _ ← Prog.lift (.load arg4 (Rect.unit (s := S4x128x8192) (chOff k c) S1x128x128.size (chOff_inb k c)).toLoadRect (View.loadsAt_vmem h_S1x128x128))
  Prog.lift (.store arg4 (Rect.unit (s := S4x128x8192) (chOff k c) S1x128x128.size (chOff_inb k c)) (k0_pay3 v1 acc xc) Finset.univ (View.stores_vmem_bits_univ h_S1x128x128 rfl) (.inl rfl))
  pure (k0_pay4 v1 acc xc)

/-- The last `n` chunks of trip `k`, in order. -/
def chunksP (k : Fin k0_t1_loop.trips) (n : ℕ) :
    n ≤ 64 → FVec F S128x128 .f32 → Prog (TpuEff nD τ sig (Elt F) Λ₀ .tc) (FVec F S128x128 .f32) :=
  Nat.rec (motive := fun n => n ≤ 64 → FVec F S128x128 .f32 → Prog (TpuEff nD τ sig (Elt F) Λ₀ .tc) (FVec F S128x128 .f32))
    (fun _ acc => pure acc)
    (fun n ih h acc => chunkP arg3 arg4 v1 k ⟨63 - n, by omega⟩ acc >>= fun acc' => ih (Nat.le_of_succ_le h) acc') n

/-- What trip `k` waits before its chunks: its block's copy in, and from trip 4 on the copy out of its output slot. -/
def waitP (k : Fin k0_t1_loop.trips) : Prog (TpuEff nD τ sig (Elt F) Λ₀ .tc) PUnit := do
  let v97 : DmaSems sig S1 := arg5.slice (Rect.unit (s := S4) (k0_off1 k) S1.size (k0_off1_inb k))
  let v98 : DmaSems sig S_ := v97.squeeze S_ squeezes_S1_S_
  let v99 : Memref sig .tc .vmem S1x128x8192 .f32 := arg3.slice (Rect.unit (s := S4x128x8192) (k0_off2 k) S1x128x8192.size (k0_off2_inb k)) (fun _ => rfl)
  let v100 : Memref sig .tc .vmem S128x8192 .f32 := v99.squeeze S128x8192 squeezes_S1x128x8192_S128x8192
  let v101 : Memref sig .tc .hbm S128x8192 .f32 := arg0.slice (Rect.unit (s := S4096x16384) (k0_off3 k) S128x8192.size (k0_off3_inb k)) (fun _ => rfl)
  Prog.lift (.waitDma2 v98.sem v101 v100 (View.wordExact_bits rfl) ((View.wordExact_bits rfl).reshape _ _))
  if k0_h1 : k0_cond1 k = 1#1 then do
    let v1261 : DmaSems sig S1 := arg6.slice (Rect.unit (s := S4) (k0_off4 k) S1.size (k0_off4_inb k k0_h1))
    let v1262 : DmaSems sig S_ := v1261.squeeze S_ squeezes_S1_S_
    let v1263 : Memref sig .tc .hbm S128x8192 .f32 := arg2.slice (Rect.unit (s := S4096x16384) (k0_off5 k) S128x8192.size (k0_off5_inb k k0_h1)) (fun _ => rfl)
    let v1264 : Memref sig .tc .vmem S1x128x8192 .f32 := arg4.slice (Rect.unit (s := S4x128x8192) (k0_off6 k) S1x128x8192.size (k0_off6_inb k k0_h1)) (fun _ => rfl)
    let v1265 : Memref sig .tc .vmem S128x8192 .f32 := v1264.squeeze S128x8192 squeezes_S1x128x8192_S128x8192
    Prog.lift (.waitDma2 v1262.sem v1265 v1263 ((View.wordExact_bits rfl).reshape _ _) (View.wordExact_bits rfl))
    pure ⟨⟩
  else do
    pure ⟨⟩

/-- What trip `k` starts after its chunks: its output slot's copy out, and while one is left the copy in four blocks ahead. -/
def startP (k : Fin k0_t1_loop.trips) (acc : FVec F S128x128 .f32) : Prog (TpuEff nD τ sig (Elt F) Λ₀ .tc) (FVec F S128x128 .f32) := do
  let v1222 : DmaSems sig S1 := arg6.slice (Rect.unit (s := S4) (k0_off1 k) S1.size (k0_off1_inb k))
  let v1223 : DmaSems sig S_ := v1222.squeeze S_ squeezes_S1_S_
  let v1224 : Memref sig .tc .hbm S128x8192 .f32 := arg2.slice (Rect.unit (s := S4096x16384) (k0_off3 k) S128x8192.size (k0_off3_inb k)) (fun _ => rfl)
  let v1225 : Memref sig .tc .vmem S1x128x8192 .f32 := arg4.slice (Rect.unit (s := S4x128x8192) (k0_off2 k) S1x128x8192.size (k0_off2_inb k)) (fun _ => rfl)
  let v1226 : Memref sig .tc .vmem S128x8192 .f32 := v1225.squeeze S128x8192 squeezes_S1x128x8192_S128x8192
  Prog.lift (.enqueueDma v1226 (.here v1224) (.dma v1223.sem) ((View.wordExact_bits rfl).reshape _ _) (View.wordExact_bits rfl) ⟨Or.inl rfl, trivial⟩)
  if k0_h2 : k0_cond2 k = 1#1 then do
    let v1261 : DmaSems sig S1 := arg5.slice (Rect.unit (s := S4) (k0_off71 k) S1.size (k0_off71_inb k k0_h2))
    let v1262 : DmaSems sig S_ := v1261.squeeze S_ squeezes_S1_S_
    let v1263 : Memref sig .tc .vmem S1x128x8192 .f32 := arg3.slice (Rect.unit (s := S4x128x8192) (k0_off72 k) S1x128x8192.size (k0_off72_inb k k0_h2)) (fun _ => rfl)
    let v1264 : Memref sig .tc .vmem S128x8192 .f32 := v1263.squeeze S128x8192 squeezes_S1x128x8192_S128x8192
    let v1265 : Memref sig .tc .hbm S128x8192 .f32 := arg0.slice (Rect.unit (s := S4096x16384) (k0_off73 k) S128x8192.size (k0_off73_inb k k0_h2)) (fun _ => rfl)
    Prog.lift (.enqueueDma v1265 (.here v1264) (.dma v1262.sem) (View.wordExact_bits rfl) ((View.wordExact_bits rfl).reshape _ _) ⟨Or.inl rfl, trivial⟩)
    pure ⟨⟩
  else do
    pure ⟨⟩
  pure acc

set_option maxRecDepth 65536 in
/-- The region's second part is the waits and chunk 0. -/
theorem part2_eq (k : Fin k0_t1_loop.trips) (arg7 v54 : BitVec 32) (acc : FVec F S128x128 .f32) (v68 : BitVec 32) (v82 : BitVec 1) (c1 : BitVec 32) :
    k0_part2 arg0 harg0 arg1 harg1 arg2 harg2 arg3 harg3 arg4 harg4 arg5 arg6 v1 k arg7 v54 acc v68 v82 c1
      = waitP arg0 arg2 arg3 arg4 arg5 arg6 k >>= fun _ => chunkP arg3 arg4 v1 k 0 acc := by
  rw [k0_part2_eq_skeleton]
  unfold k0_part2_skel waitP
  by_cases h : k0_cond1 k = 1#1
  · simp only [dif_pos h, bind_assoc]; rfl
  · simp only [dif_neg h, bind_assoc]; rfl

set_option maxRecDepth 65536 in
set_option maxHeartbeats 4000000 in
/-- THE REGION: trip `k` waits, runs its 64 chunks from the carry at the row block's start, and starts its copies. -/
theorem body_eq (v0 : Vec F S256x256 .bf16) (k : Fin k0_t1_loop.trips) (acc : FVec F S128x128 .f32) :
    k0_t1_body arg0 harg0 arg1 harg1 arg2 harg2 arg3 harg3 arg4 harg4 arg5 arg6 v0 k acc
      = waitP arg0 arg2 arg3 arg4 arg5 arg6 k >>= fun _ =>
          chunksP arg3 arg4 (k0_pay217 v0) k 64 (Nat.le_refl 64) (k0_pay1 0#32 1#32 k acc) >>= fun acc' =>
            startP arg0 arg2 arg3 arg4 arg5 arg6 k acc' := by
  unfold k0_t1_body
  rw [k0_part1_eq_skeleton]
  unfold k0_part1_skel
  simp only [part2_eq, bind_assoc, pure_bind]
  refine congrArg (fun f => waitP arg0 arg2 arg3 arg4 arg5 arg6 k >>= f) (funext fun _ => ?_)
  rfl

end Body

end Cert.Proof.KI

end
-- ==== Proof.KI.Names.lean ====
/-
  Names for the pieces the kernel moves: the 64 blocks of the operand and of the result (128 rows by 8192 columns, in the
  order the loop takes them), the four slots of the two VMEM buffers, their DMA semaphores; and the printed offsets of the
  loop in closed form, so that the body's slices at trip `k` are those names.
-/
module

public import proofs.«01_k».proof.Proof.KI.Body
public import proofs.«01_k».proof.Proof.Gen.KernelIdeal.Launch
public import proofs.«01_k».proof.Proof.Gen.KernelIdeal.Loops
public import proofs.«01_k».proof.Proof.Gen.KernelIdeal.Points
public import Idealize.ShloMosaic.Lib.Pipeline.KitQuiescent
public import Idealize.ShloMosaic.Lib.Ring.Trips
public import Idealize.ShloMosaic.Lib.Affine
public import Idealize.ShloMosaic.Lib.Tactic

@[expose] public section

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The arrays, the blocks, the slots, the cells -/

/-- The operand's array, -/
abbrev xM : Memref sig .tc .hbm S4096x16384 .f32 := Memref.whole main_arg0
/-- the result's array, -/
abbrev oM : Memref sig .tc .hbm S4096x16384 .f32 := Memref.whole main_v0
/-- the input buffer of four slots, -/
abbrev inM : Memref sig .tc .vmem S4x128x8192 .f32 := Memref.whole cc0_scratch0
/-- the output buffer of four slots. -/
abbrev outM : Memref sig .tc .vmem S4x128x8192 .f32 := Memref.whole cc0_scratch1

/-- Block `b`'s offsets: row block `b / 2`, column half `b % 2`. -/
abbrev blkOff (b : Fin 64) : Fin 2 → ℕ := ![b.val / 2 * 128, b.val % 2 * 8192]
/-- A block lies inside its array. -/
theorem blkOff_inb (b : Fin 64) : ∀ a, blkOff b a + S128x8192.size a ≤ S4096x16384.size a := by
  have := b.isLt; intro a; fin_cases a
  · show b.val / 2 * 128 + 128 ≤ 4096; omega
  · show b.val % 2 * 8192 + 8192 ≤ 16384; omega
/-- Where slot `s` starts in a buffer of four. -/
abbrev slotOff (s : Fin 4) : Fin 3 → ℕ := ![s.val, 0, 0]
/-- A slot lies inside its buffer. -/
theorem slotOff_inb (s : Fin 4) : ∀ a, slotOff s a + S1x128x8192.size a ≤ S4x128x8192.size a := by
  have := s.isLt; intro a; fin_cases a
  · show s.val + 1 ≤ 4; omega
  · show 0 + 128 ≤ 128; omega
  · show 0 + 8192 ≤ 8192; omega
/-- Where slot `s`'s semaphore is. -/
abbrev semOff (s : Fin 4) : Fin 1 → ℕ := ![s.val]
/-- It is one of the four. -/
theorem semOff_inb (s : Fin 4) : ∀ a, semOff s a + S1.size a ≤ S4.size a := by
  have := s.isLt; intro a; fin_cases a; show s.val + 1 ≤ 4; omega
/-- Chunk `c` of slot `s`: all 128 rows, columns `128 c` on. -/
abbrev chkOff (s : Fin 4) (c : Fin 64) : Fin 3 → ℕ := ![s.val, 0, 128 * c.val]

/-- Block `b` of the operand, -/
def xblk (b : Fin 64) : Memref sig .tc .hbm S128x8192 .f32 :=
  xM.slice (Rect.unit (s := S4096x16384) (blkOff b) S128x8192.size (blkOff_inb b)) (fun _ => rfl)
/-- of the result, -/
def oblk (b : Fin 64) : Memref sig .tc .hbm S128x8192 .f32 :=
  oM.slice (Rect.unit (s := S4096x16384) (blkOff b) S128x8192.size (blkOff_inb b)) (fun _ => rfl)
/-- slot `s` of the input buffer, -/
def inSlot (s : Fin 4) : Memref sig .tc .vmem S128x8192 .f32 :=
  (inM.slice (Rect.unit (s := S4x128x8192) (slotOff s) S1x128x8192.size (slotOff_inb s)) (fun _ => rfl)).squeeze S128x8192 squeezes_S1x128x8192_S128x8192
/-- of the output buffer, -/
def outSlot (s : Fin 4) : Memref sig .tc .vmem S128x8192 .f32 :=
  (outM.slice (Rect.unit (s := S4x128x8192) (slotOff s) S1x128x8192.size (slotOff_inb s)) (fun _ => rfl)).squeeze S128x8192 squeezes_S1x128x8192_S128x8192
/-- and the DMA semaphores of the two. -/
def inSem (s : Fin 4) : DmaSems sig S_ := (cc0_scratch2.slice (Rect.unit (s := S4) (semOff s) S1.size (semOff_inb s))).squeeze S_ squeezes_S1_S_
/-- and of the output ring. -/
def outSem (s : Fin 4) : DmaSems sig S_ := (cc0_scratch3.slice (Rect.unit (s := S4) (semOff s) S1.size (semOff_inb s))).squeeze S_ squeezes_S1_S_

instance (b : Fin 64) : ClosedOff (blkOff b) := ⟨blkOff b, rfl⟩
instance (s : Fin 4) : ClosedOff (slotOff s) := ⟨slotOff s, rfl⟩

/-! ## The loop's words in closed form -/

/-- The loop makes 64 trips. -/
theorem trips_eq : k0_t1_loop.trips = 64 := by decide +kernel

/-- The place that the kernel computes, in closed form: the semaphore it waits on for its input; -/
theorem off1_eq : ∀ k : Fin k0_t1_loop.trips, k0_off1 k = semOff (Ring.sl 4 k.val) := by decide +kernel
/-- the slot that the input arrives in; -/
theorem off2_eq : ∀ k : Fin k0_t1_loop.trips, k0_off2 k = slotOff (Ring.sl 4 k.val) := by decide +kernel
/-- the block that arrives, or is sent; -/
theorem off3_eq : ∀ k : Fin k0_t1_loop.trips, k0_off3 k = blkOff (Ring.bk 64 k.val) := by decide +kernel
/-- the semaphore of the output slot; -/
theorem off4_eq : ∀ k : Fin k0_t1_loop.trips, k0_off4 k = semOff (Ring.sl 4 k.val) := by decide +kernel
/-- the block sent four trips before; -/
theorem off5_eq : ∀ k : Fin k0_t1_loop.trips, 4 ≤ k.val → k0_off5 k = blkOff (Ring.bk 64 (k.val - 4)) := by decide +kernel
/-- the output slot; -/
theorem off6_eq : ∀ k : Fin k0_t1_loop.trips, k0_off6 k = slotOff (Ring.sl 4 k.val) := by decide +kernel
/-- the semaphore of the block fetched ahead; -/
theorem off71_eq : ∀ k : Fin k0_t1_loop.trips, k0_off71 k = semOff (Ring.sl 4 k.val) := by decide +kernel
/-- its slot; -/
theorem off72_eq : ∀ k : Fin k0_t1_loop.trips, k0_off72 k = slotOff (Ring.sl 4 k.val) := by decide +kernel
/-- the block fetched ahead, four trips on. -/
theorem off73_eq : ∀ k : Fin k0_t1_loop.trips, k.val + 4 < 64 → k0_off73 k = blkOff (Ring.bk 64 (k.val + 4)) := by decide +kernel
/-- Trip `k`'s chunks lie in slot `k % 4`. -/
theorem slot_eq : ∀ k : Fin k0_t1_loop.trips, k0_off7 k 0 = (Ring.sl 4 k.val).val := by decide +kernel
/-- A chunk's place in closed form. -/
theorem chOff_eq (k : Fin k0_t1_loop.trips) (c : Fin 64) : chOff k c = chkOff (Ring.sl 4 k.val) c := by
  unfold chOff chkOff; rw [slot_eq]
/-- The output slot is waited from trip 4 on; -/
theorem cond1_iff : ∀ k : Fin k0_t1_loop.trips, k0_cond1 k = 1#1 ↔ 4 ≤ k.val := by decide +kernel
/-- a block is left to fetch up to trip 59. -/
theorem cond2_iff : ∀ k : Fin k0_t1_loop.trips, k0_cond2 k = 1#1 ↔ k.val + 4 < 64 := by decide +kernel

instance (k : Fin k0_t1_loop.trips) (c : Fin 64) : ClosedOff (chOff k c) := ⟨chkOff (Ring.sl 4 k.val) c, chOff_eq k c⟩

/-! ## The body's slices are the names -/

section Canon

/-- A semaphore of the input ring at a computed place is the one at its closed form; -/
private theorem inSem_congr {off : Fin 1 → ℕ} {s : Fin 4} (e : off = semOff s) (hh) :
    (cc0_scratch2.slice (Rect.unit (s := S4) off S1.size hh)).squeeze S_ squeezes_S1_S_ = inSem s :=
  congrArg (fun A : DmaSems sig S1 => A.squeeze S_ squeezes_S1_S_) (SemArray.slice_unit_congr _ e _ _)
/-- of the output ring; -/
private theorem outSem_congr {off : Fin 1 → ℕ} {s : Fin 4} (e : off = semOff s) (hh) :
    (cc0_scratch3.slice (Rect.unit (s := S4) off S1.size hh)).squeeze S_ squeezes_S1_S_ = outSem s :=
  congrArg (fun A : DmaSems sig S1 => A.squeeze S_ squeezes_S1_S_) (SemArray.slice_unit_congr _ e _ _)
/-- a slot of the input buffer; -/
private theorem inSlot_congr {off : Fin 3 → ℕ} {s : Fin 4} (e : off = slotOff s) (hh hs) :
    (inM.slice (Rect.unit (s := S4x128x8192) off S1x128x8192.size hh) hs).squeeze S128x8192 squeezes_S1x128x8192_S128x8192 = inSlot s :=
  congrArg (fun M : Memref sig .tc .vmem S1x128x8192 .f32 => M.squeeze S128x8192 squeezes_S1x128x8192_S128x8192) (Memref.slice_unit_congr _ e _ _ _ _)
/-- of the output buffer; -/
private theorem outSlot_congr {off : Fin 3 → ℕ} {s : Fin 4} (e : off = slotOff s) (hh hs) :
    (outM.slice (Rect.unit (s := S4x128x8192) off S1x128x8192.size hh) hs).squeeze S128x8192 squeezes_S1x128x8192_S128x8192 = outSlot s :=
  congrArg (fun M : Memref sig .tc .vmem S1x128x8192 .f32 => M.squeeze S128x8192 squeezes_S1x128x8192_S128x8192) (Memref.slice_unit_congr _ e _ _ _ _)
/-- a block of the operand; -/
private theorem xblk_congr {off : Fin 2 → ℕ} {b : Fin 64} (e : off = blkOff b) (hh hs) :
    xM.slice (Rect.unit (s := S4096x16384) off S128x8192.size hh) hs = xblk b := Memref.slice_unit_congr _ e _ (blkOff_inb b) _ (fun _ => rfl)
/-- of the result. -/
private theorem oblk_congr {off : Fin 2 → ℕ} {b : Fin 64} (e : off = blkOff b) (hh hs) :
    oM.slice (Rect.unit (s := S4096x16384) off S128x8192.size hh) hs = oblk b := Memref.slice_unit_congr _ e _ (blkOff_inb b) _ (fun _ => rfl)

/-- Trip `k`: its block's copy in, waited; -/
@[sl_canon] theorem inSemK (k : Fin k0_t1_loop.trips) (hh) :
    (cc0_scratch2.slice (Rect.unit (s := S4) (k0_off1 k) S1.size hh)).squeeze S_ squeezes_S1_S_ = inSem (Ring.sl 4 k.val) := inSem_congr (off1_eq k) _
@[sl_canon] theorem inSlotK (k : Fin k0_t1_loop.trips) (hh hs) :
    (inM.slice (Rect.unit (s := S4x128x8192) (k0_off2 k) S1x128x8192.size hh) hs).squeeze S128x8192 squeezes_S1x128x8192_S128x8192 = inSlot (Ring.sl 4 k.val) := inSlot_congr (off2_eq k) _ _
@[sl_canon] theorem xblkK (k : Fin k0_t1_loop.trips) (hh hs) :
    xM.slice (Rect.unit (s := S4096x16384) (k0_off3 k) S128x8192.size hh) hs = xblk (Ring.bk 64 k.val) := xblk_congr (off3_eq k) _ _
/-- the copy out of its output slot, waited; -/
@[sl_canon] theorem outSemW (k : Fin k0_t1_loop.trips) (hh) :
    (cc0_scratch3.slice (Rect.unit (s := S4) (k0_off4 k) S1.size hh)).squeeze S_ squeezes_S1_S_ = outSem (Ring.sl 4 k.val) := outSem_congr (off4_eq k) _
@[sl_canon] theorem outSlotW (k : Fin k0_t1_loop.trips) (hh hs) :
    (outM.slice (Rect.unit (s := S4x128x8192) (k0_off6 k) S1x128x8192.size hh) hs).squeeze S128x8192 squeezes_S1x128x8192_S128x8192 = outSlot (Ring.sl 4 k.val) := outSlot_congr (off6_eq k) _ _
@[sl_canon] theorem oblkW (k : Fin k0_t1_loop.trips) (hk : 4 ≤ k.val) (hh hs) :
    oM.slice (Rect.unit (s := S4096x16384) (k0_off5 k) S128x8192.size hh) hs = oblk (Ring.bk 64 (k.val - 4)) := oblk_congr (off5_eq k hk) _ _
/-- its own copy out, started; -/
@[sl_canon] theorem outSemK (k : Fin k0_t1_loop.trips) (hh) :
    (cc0_scratch3.slice (Rect.unit (s := S4) (k0_off1 k) S1.size hh)).squeeze S_ squeezes_S1_S_ = outSem (Ring.sl 4 k.val) := outSem_congr (off1_eq k) _
@[sl_canon] theorem outSlotK (k : Fin k0_t1_loop.trips) (hh hs) :
    (outM.slice (Rect.unit (s := S4x128x8192) (k0_off2 k) S1x128x8192.size hh) hs).squeeze S128x8192 squeezes_S1x128x8192_S128x8192 = outSlot (Ring.sl 4 k.val) := outSlot_congr (off2_eq k) _ _
@[sl_canon] theorem oblkK (k : Fin k0_t1_loop.trips) (hh hs) :
    oM.slice (Rect.unit (s := S4096x16384) (k0_off3 k) S128x8192.size hh) hs = oblk (Ring.bk 64 k.val) := oblk_congr (off3_eq k) _ _
/-- and the copy in four blocks ahead, started. -/
@[sl_canon] theorem inSemN (k : Fin k0_t1_loop.trips) (hh) :
    (cc0_scratch2.slice (Rect.unit (s := S4) (k0_off71 k) S1.size hh)).squeeze S_ squeezes_S1_S_ = inSem (Ring.sl 4 k.val) := inSem_congr (off71_eq k) _
@[sl_canon] theorem inSlotN (k : Fin k0_t1_loop.trips) (hh hs) :
    (inM.slice (Rect.unit (s := S4x128x8192) (k0_off72 k) S1x128x8192.size hh) hs).squeeze S128x8192 squeezes_S1x128x8192_S128x8192 = inSlot (Ring.sl 4 k.val) := inSlot_congr (off72_eq k) _ _
@[sl_canon] theorem xblkN (k : Fin k0_t1_loop.trips) (hk : k.val + 4 < 64) (hh hs) :
    xM.slice (Rect.unit (s := S4096x16384) (k0_off73 k) S128x8192.size hh) hs = xblk (Ring.bk 64 (k.val + 4)) := xblk_congr (off73_eq k hk) _ _

/-- The prologue's and the epilogue's literal slices: the four slots and cells, blocks 0 to 3 in, blocks 60 to 63 out. -/
@[sl_canon] theorem inSemL0 (hh) : (cc0_scratch2.slice (Rect.unit (s := S4) ![0] S1.size hh)).squeeze S_ squeezes_S1_S_ = inSem 0 := inSem_congr (by decide) _
@[sl_canon] theorem inSemL1 (hh) : (cc0_scratch2.slice (Rect.unit (s := S4) ![1] S1.size hh)).squeeze S_ squeezes_S1_S_ = inSem 1 := inSem_congr (by decide) _
@[sl_canon] theorem inSemL2 (hh) : (cc0_scratch2.slice (Rect.unit (s := S4) ![2] S1.size hh)).squeeze S_ squeezes_S1_S_ = inSem 2 := inSem_congr (by decide) _
@[sl_canon] theorem inSemL3 (hh) : (cc0_scratch2.slice (Rect.unit (s := S4) ![3] S1.size hh)).squeeze S_ squeezes_S1_S_ = inSem 3 := inSem_congr (by decide) _
@[sl_canon] theorem outSemL0 (hh) : (cc0_scratch3.slice (Rect.unit (s := S4) ![0] S1.size hh)).squeeze S_ squeezes_S1_S_ = outSem 0 := outSem_congr (by decide) _
@[sl_canon] theorem outSemL1 (hh) : (cc0_scratch3.slice (Rect.unit (s := S4) ![1] S1.size hh)).squeeze S_ squeezes_S1_S_ = outSem 1 := outSem_congr (by decide) _
@[sl_canon] theorem outSemL2 (hh) : (cc0_scratch3.slice (Rect.unit (s := S4) ![2] S1.size hh)).squeeze S_ squeezes_S1_S_ = outSem 2 := outSem_congr (by decide) _
@[sl_canon] theorem outSemL3 (hh) : (cc0_scratch3.slice (Rect.unit (s := S4) ![3] S1.size hh)).squeeze S_ squeezes_S1_S_ = outSem 3 := outSem_congr (by decide) _
@[sl_canon] theorem inSlotL0 (hh hs) : (inM.slice (Rect.unit (s := S4x128x8192) ![0, 0, 0] S1x128x8192.size hh) hs).squeeze S128x8192 squeezes_S1x128x8192_S128x8192 = inSlot 0 := inSlot_congr (by decide) _ _
@[sl_canon] theorem inSlotL1 (hh hs) : (inM.slice (Rect.unit (s := S4x128x8192) ![1, 0, 0] S1x128x8192.size hh) hs).squeeze S128x8192 squeezes_S1x128x8192_S128x8192 = inSlot 1 := inSlot_congr (by decide) _ _
@[sl_canon] theorem inSlotL2 (hh hs) : (inM.slice (Rect.unit (s := S4x128x8192) ![2, 0, 0] S1x128x8192.size hh) hs).squeeze S128x8192 squeezes_S1x128x8192_S128x8192 = inSlot 2 := inSlot_congr (by decide) _ _
@[sl_canon] theorem inSlotL3 (hh hs) : (inM.slice (Rect.unit (s := S4x128x8192) ![3, 0, 0] S1x128x8192.size hh) hs).squeeze S128x8192 squeezes_S1x128x8192_S128x8192 = inSlot 3 := inSlot_congr (by decide) _ _
@[sl_canon] theorem outSlotL0 (hh hs) : (outM.slice (Rect.unit (s := S4x128x8192) ![0, 0, 0] S1x128x8192.size hh) hs).squeeze S128x8192 squeezes_S1x128x8192_S128x8192 = outSlot 0 := outSlot_congr (by decide) _ _
@[sl_canon] theorem outSlotL1 (hh hs) : (outM.slice (Rect.unit (s := S4x128x8192) ![1, 0, 0] S1x128x8192.size hh) hs).squeeze S128x8192 squeezes_S1x128x8192_S128x8192 = outSlot 1 := outSlot_congr (by decide) _ _
@[sl_canon] theorem outSlotL2 (hh hs) : (outM.slice (Rect.unit (s := S4x128x8192) ![2, 0, 0] S1x128x8192.size hh) hs).squeeze S128x8192 squeezes_S1x128x8192_S128x8192 = outSlot 2 := outSlot_congr (by decide) _ _
@[sl_canon] theorem outSlotL3 (hh hs) : (outM.slice (Rect.unit (s := S4x128x8192) ![3, 0, 0] S1x128x8192.size hh) hs).squeeze S128x8192 squeezes_S1x128x8192_S128x8192 = outSlot 3 := outSlot_congr (by decide) _ _
@[sl_canon] theorem xblkL0 (hh hs) : xM.slice (Rect.unit (s := S4096x16384) ![0, 0] S128x8192.size hh) hs = xblk 0 := xblk_congr (by decide) _ _
@[sl_canon] theorem xblkL1 (hh hs) : xM.slice (Rect.unit (s := S4096x16384) ![0, 8192] S128x8192.size hh) hs = xblk 1 := xblk_congr (by decide) _ _
@[sl_canon] theorem xblkL2 (hh hs) : xM.slice (Rect.unit (s := S4096x16384) ![128, 0] S128x8192.size hh) hs = xblk 2 := xblk_congr (by decide) _ _
@[sl_canon] theorem xblkL3 (hh hs) : xM.slice (Rect.unit (s := S4096x16384) ![128, 8192] S128x8192.size hh) hs = xblk 3 := xblk_congr (by decide) _ _
@[sl_canon] theorem oblkL0 (hh hs) : oM.slice (Rect.unit (s := S4096x16384) ![3840, 0] S128x8192.size hh) hs = oblk 60 := oblk_congr (by decide) _ _
@[sl_canon] theorem oblkL1 (hh hs) : oM.slice (Rect.unit (s := S4096x16384) ![3840, 8192] S128x8192.size hh) hs = oblk 61 := oblk_congr (by decide) _ _
@[sl_canon] theorem oblkL2 (hh hs) : oM.slice (Rect.unit (s := S4096x16384) ![3968, 0] S128x8192.size hh) hs = oblk 62 := oblk_congr (by decide) _ _
@[sl_canon] theorem oblkL3 (hh hs) : oM.slice (Rect.unit (s := S4096x16384) ![3968, 8192] S128x8192.size hh) hs = oblk 63 := oblk_congr (by decide) _ _

end Canon

end Cert.Proof.KI

end
-- ==== Proof.KI.Pieces.lean ====
/-
  The pieces of memory and the cells a trip of the loop owns, by name.
-/
module

public import proofs.«01_k».proof.Proof.KI.Names

@[expose] public section

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The region's ghost state: the pipeline's own, beside the counters of the kernel's transfers. -/
abbrev UU (nD : ℕ) (τ : Topo) : Type := UR sig nD τ × Counters
local notation "𝕄" => MT nD τ sig Unit (Elt F) ℕ (UU nD τ) ℕ
/-- Where the rounds' ghost state sits in the whole. -/
abbrev EP : Emb (UR sig nD τ) (MT nD τ sig Unit (Elt F) ℕ (UU nD τ) ℕ) := embL
/-- No loop needs a variant. -/
abbrev 𝒱₀ : Variants := Variants.none

/-- A buffer of floats in block form. -/
abbrev Blk (F : FTy → Type) := Vec F S128x8192 .f32

variable (c : Dev nD) (XA : Buf (Elt F) (xM.view.loc (c : Thread nD τ)))

/-- Slot `s` of the input buffer, holding `f`; -/
abbrev inP (s : Fin 4) (f : Buf (Elt F) ((inSlot s).view.loc (c : Thread nD τ))) : sProp 𝕄 :=
  iprop((inSlot s).view.loc (c : Thread nD τ) ↦[(inSlot s).view.set]{fullShare} f)
/-- of the output buffer. -/
abbrev outP (s : Fin 4) (f : Buf (Elt F) ((outSlot s).view.loc (c : Thread nD τ))) : sProp 𝕄 :=
  iprop((outSlot s).view.loc (c : Thread nD τ) ↦[(outSlot s).view.set]{fullShare} f)
/-- Block `b` of the operand, holding the operand; -/
abbrev xP (b : Fin 64) : sProp 𝕄 := iprop((xblk b).view.loc (c : Thread nD τ) ↦[(xblk b).view.set]{fullShare} XA)
/-- of the result, holding `f`. -/
abbrev oP (b : Fin 64) (f : Buf (Elt F) ((oblk b).view.loc (c : Thread nD τ))) : sProp 𝕄 :=
  iprop((oblk b).view.loc (c : Thread nD τ) ↦[(oblk b).view.set]{fullShare} f)
/-- An idle semaphore of the input ring; -/
abbrev inC (s : Fin 4) : sProp 𝕄 := semVal ((c : Thread nD τ), SemLoc.dma (inSem s).sem) 0
/-- of the output ring. -/
abbrev outC (s : Fin 4) : sProp 𝕄 := semVal ((c : Thread nD τ), SemLoc.dma (outSem s).sem) 0

/-- Block `b` of the operand, as a block. -/
def xval (b : Fin 64) : Blk F := (xblk b).view.read (Elt F) XA

end Cert.Proof.KI

end
-- ==== Proof.KI.Chunk.lean ====
/-
  What the kernel computes, block by block, and one trip's chunks: from a slot holding a block of the operand, the 64 chunks
  leave the block's result in the output slot and hand on the carry.
-/
module

public import proofs.«01_k».proof.Proof.KI.Pieces
public import Idealize.ShloMosaic.Lib.ValueLayout
public import Idealize.ShloMosaic.Lib.WritesUnit

@[expose] public section

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig Unit (Elt F) ℕ (UU nD τ) ℕ

/-! ## The values -/

/-- Chunk `n` of a block: columns `128 n` on, as the loads take it. -/
def xch (X : Blk F) (n : ℕ) : Vec F S1x128x128 .f32 :=
  fun j => X (ix2 (j 1) ⟨(128 * n + (j 2).val) % 8192, Nat.mod_lt _ (by decide)⟩)

/-- The carry before chunk `n` of a block, from the carry `a0` at the block's start. -/
def chunkAcc (v1 : FVec F S256x256 .bf16) (X : Blk F) (a0 : FVec F S128x128 .f32) : ℕ → FVec F S128x128 .f32
  | 0 => a0
  | n + 1 => k0_pay4 v1 (chunkAcc v1 X a0 n) (xch X n)

/-- The result of a block: column `i` is column `i % 128` of chunk `i / 128`'s result. -/
def blkVal (v1 : FVec F S256x256 .bf16) (X : Blk F) (a0 : FVec F S128x128 .f32) : Blk F :=
  fun i => k0_pay3 v1 (chunkAcc v1 X a0 ((i 1).val / 128)) (xch X ((i 1).val / 128))
    (ix3 (0 : Fin 1) (i 0) ⟨(i 1).val % 128, Nat.mod_lt _ (by decide)⟩)

/-! ## A slot's contents -/

/-- Element `i` of slot `s`, in the buffer. -/
abbrev slotIx (s : Fin 4) (i : S128x8192.Idx) : S4x128x8192.Idx := ix3 s (i 0) (i 1)

/-- A slot's element before its unit axis is dropped. -/
theorem sq_ix (h : S128x8192.numel = S1x128x8192.numel) (i : S128x8192.Idx) :
    (Shape.reshapeEquiv h i : S1x128x8192.Idx) = ix3 (0 : Fin 1) (i 0) (i 1) := by
  have hi : i = (ix2 (i 0) (i 1) : S128x8192.Idx) := by funext a; fin_cases a <;> rfl
  exact (congrArg (Shape.reshapeEquiv h) hi).trans (ValueIdx.reshapeEquiv_ix2_1ab (a := 128) (b := 8192) h (i 0) (i 1))

/-- A slot of the input buffer, read at an element, is the buffer read at that element of the slot. -/
theorem inSlot_read (s : Fin 4) (f : (inSlot s).view.ty.Contents (Elt F)) (i : S128x8192.Idx) :
    (inSlot s).view.read (Elt F) f i = inM.view.read (Elt F) f (slotIx s i) := by
  have e : (inSlot s).view.emb i = slotIx s i := by
    show (Rect.unit (s := S4x128x8192) (slotOff s) S1x128x8192.size (slotOff_inb s)).emb (Shape.reshapeEquiv _ i) = _
    rw [sq_ix]
    funext a; apply Fin.ext; fin_cases a
    · show s.val + 1 * 0 = s.val; omega
    · show 0 + 1 * (i 0).val = (i 0).val; omega
    · show 0 + 1 * (i 1).val = (i 1).val; omega
  show f ((inSlot s).view.emb i) = f (slotIx s i)
  exact congrArg f e

/-- The same of the output buffer. -/
theorem outSlot_read (s : Fin 4) (f : (outSlot s).view.ty.Contents (Elt F)) (i : S128x8192.Idx) :
    (outSlot s).view.read (Elt F) f i = outM.view.read (Elt F) f (slotIx s i) := by
  have e : (outSlot s).view.emb i = slotIx s i := by
    show (Rect.unit (s := S4x128x8192) (slotOff s) S1x128x8192.size (slotOff_inb s)).emb (Shape.reshapeEquiv _ i) = _
    rw [sq_ix]
    funext a; apply Fin.ext; fin_cases a
    · show s.val + 1 * 0 = s.val; omega
    · show 0 + 1 * (i 0).val = (i 0).val; omega
    · show 0 + 1 * (i 1).val = (i 1).val; omega
  show f ((outSlot s).view.emb i) = f (slotIx s i)
  exact congrArg f e

section Chunk

variable (c : Dev nD) (v1 : FVec F S256x256 .bf16) (k : Fin k0_t1_loop.trips) (X : Blk F) (a0 : FVec F S128x128 .f32)

/-- The output slot after `n` chunks: columns below `128 n` hold the block's result. -/
def Done (g : Buf (Elt F) ((outSlot (Ring.sl 4 k.val)).view.loc (c : Thread nD τ))) (n : ℕ) : Prop :=
  ∀ i : S128x8192.Idx, (i 1).val < 128 * n → outM.view.read (Elt F) g (slotIx (Ring.sl 4 k.val) i) = blkVal v1 X a0 i

/-- The load of chunk `n` reads the block's chunk `n`. -/
theorem load_chunk (f : Buf (Elt F) ((inSlot (Ring.sl 4 k.val)).view.loc (c : Thread nD τ)))
    (hX : ∀ i : S128x8192.Idx, (inSlot (Ring.sl 4 k.val)).view.read (Elt F) f i = X i) (n : Fin 64) :
    View.readAt (Elt F) inM.view (Rect.unit (s := S4x128x8192) (chOff k n) S1x128x128.size (chOff_inb k n)).toLoadRect f = xch X n.val := by
  funext j
  have h2 : (j 2).val < 128 := (j 2).isLt
  have h1 : (j 1).val < 128 := (j 1).isLt
  have h0 : (j 0).val = 0 := by have : (j 0).val < 1 := (j 0).isLt; omega
  have hn := n.isLt
  unfold xch
  rw [← hX]
  refine Eq.trans ?_ (inSlot_read (F := F) _ f _).symm
  show inM.view.read (Elt F) f _ = inM.view.read (Elt F) f _
  refine congrArg (inM.view.read (Elt F) f) ?_
  funext a; apply Fin.ext; fin_cases a
  · show k0_off7 k 0 + 1 * (j 0).val = (Ring.sl 4 k.val).val
    rw [slot_eq, h0]; omega
  · show 0 + 1 * (j 1).val = (j 1).val; omega
  · show 128 * n.val + 1 * (j 2).val = (128 * n.val + (j 2).val) % 8192
    rw [Nat.mod_eq_of_lt (by omega)]; omega

/-- The store of chunk `n` takes the slot on by one chunk. -/
theorem store_chunk (g : Buf (Elt F) ((outSlot (Ring.sl 4 k.val)).view.loc (c : Thread nD τ))) (n : Fin 64) (hg : Done c v1 k X a0 g n.val) :
    Done c v1 k X a0 (outM.view.writes (Elt F) g
      [⟨Rect.unit (s := S4x128x8192) (chOff k n) S1x128x128.size (chOff_inb k n), k0_pay3 v1 (chunkAcc v1 X a0 n.val) (xch X n.val)⟩]) (n.val + 1) := by
  intro i hi
  have h1 : (i 1).val < 8192 := (i 1).isLt
  have h0 : (i 0).val < 128 := (i 0).isLt
  by_cases hlt : (i 1).val < 128 * n.val
  · exact (View.read_writes_cons_unit_of_not_mem outM.view g _ _ [] _ (chOff_eq k n) 2 (Or.inl hlt)).trans (hg i hlt)
  · have hdiv : (i 1).val / 128 = n.val := by omega
    refine (View.read_writes_cons_unit_of_mem outM.view g _ _ [] _ (ix3 (0 : Fin 1) (i 0) ⟨(i 1).val % 128, Nat.mod_lt _ (by decide)⟩) (chOff_eq k n) ?_).trans ?_
    rotate_left
    · unfold blkVal; rw [hdiv]; rfl
    · intro a; fin_cases a
      · show (Ring.sl 4 k.val).val = (Ring.sl 4 k.val).val + 0; omega
      · show (i 0).val = 0 + (i 0).val; omega
      · show (i 1).val = 128 * n.val + (i 1).val % 128; omega

/-- What a trip holds around its chunks: the input slot at the block, the output slot done up to chunk `n`. -/
def chunkHold (f : Buf (Elt F) ((inSlot (Ring.sl 4 k.val)).view.loc (c : Thread nD τ))) (n : ℕ) : sProp 𝕄 :=
  iprop(inP c (Ring.sl 4 k.val) f ∗ (∃ g, ⌜Done c v1 k X a0 g n⌝ ∗ outP c (Ring.sl 4 k.val) g) ∗ (∃ W, owes (c : Thread nD τ) 0 W))

/-- One chunk. -/
theorem chunk_wp (f : Buf (Elt F) ((inSlot (Ring.sl 4 k.val)).view.loc (c : Thread nD τ)))
    (hX : ∀ i : S128x8192.Idx, (inSlot (Ring.sl 4 k.val)).view.read (Elt F) f i = X i) (n : Fin 64) :
    chunkHold c v1 k X a0 f n.val
      ⊢ wp Idealize.ShloMosaic.frame (wpE (defs₀ (F := F)) 𝒱₀ (c : Thread nD τ) none) Set.univ
          (chunkP inM outM v1 k n (chunkAcc v1 X a0 n.val))
          (fun acc => iprop(⌜acc = chunkAcc v1 X a0 (n.val + 1)⌝ ∗ chunkHold c v1 k X a0 f (n.val + 1))) := by
  unfold chunkP chunkHold
  iintro ⟨HI, HG, How⟩
  icases HG with ⟨%g, %hg, HO⟩
  icases How with ⟨%W, How⟩
  sl_exec
  have hl := load_chunk c k X f hX n
  have hs := store_chunk c v1 k X a0 g n hg
  rw [wp_ret]
  imodintro
  isplitr
  · ipureintro; rw [hl]; rfl
  isplitl [HI]
  · iexact HI
  isplitl [HO]
  · iexists (chunk_wp.sl.HO_w1 c v1 k X a0 f n g); isplitr
    · ipureintro
      rw [← hl] at hs
      exact hs
    · iexact HO
  · iexists _; iexact How

/-- The last `m` chunks. -/
theorem chunks_wp (f : Buf (Elt F) ((inSlot (Ring.sl 4 k.val)).view.loc (c : Thread nD τ)))
    (hX : ∀ i : S128x8192.Idx, (inSlot (Ring.sl 4 k.val)).view.read (Elt F) f i = X i) : ∀ (m : ℕ) (h : m ≤ 64),
    chunkHold c v1 k X a0 f (64 - m)
      ⊢ wp Idealize.ShloMosaic.frame (wpE (defs₀ (F := F)) 𝒱₀ (c : Thread nD τ) none) Set.univ
          (chunksP inM outM v1 k m h (chunkAcc v1 X a0 (64 - m)))
          (fun acc => iprop(⌜acc = chunkAcc v1 X a0 64⌝ ∗ chunkHold c v1 k X a0 f 64)) := by
  intro m
  induction m with
  | zero =>
    intro h
    show _ ⊢ wp _ _ _ (pure _) _
    rw [wp_pure]
    iintro H
    imodintro
    isplitr
    · ipureintro; rfl
    · iexact H
  | succ m ih =>
    intro h
    have e : 64 - (m + 1) = 63 - m := by omega
    have e' : 63 - m + 1 = 64 - m := by omega
    show _ ⊢ wp _ _ _ (chunkP inM outM v1 k ⟨63 - m, by omega⟩ _ >>= fun acc' => chunksP inM outM v1 k m (Nat.le_of_succ_le h) acc') _
    rw [wp_bind, e]
    refine (chunk_wp c v1 k X a0 f hX ⟨63 - m, by omega⟩).trans (wp_mono _ _ _ fun acc => ?_)
    iintro ⟨%ha, H⟩
    subst ha
    simp only [e']
    iapply (ih (Nat.le_of_succ_le h))
    iexact H

end Chunk

end Cert.Proof.KI

end
-- ==== Proof.KI.Trip.lean ====
/-
  One trip of the loop: what it owns before trip `k`, and that its waits, its chunks and its starts lead to what it owns
  before trip `k + 1`.
-/
module

public import proofs.«01_k».proof.Proof.KI.Chunk
public import Idealize.ShloMosaic.Lib.Ring.WriteBehind

@[expose] public section

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-! ## The carry and the results -/

section Trip

variable (c : Dev nD) (XA : Buf (Elt F) (xM.view.loc (c : Thread nD τ))) (v1 : FVec F S256x256 .bf16)

/-- The carry a block's chunks start from: zero at the left half of a row block, else the one handed on. -/
def startAcc (k : ℕ) (acc : FVec F S128x128 .f32) : FVec F S128x128 .f32 := if k % 2 = 0 then k0_pay218 else acc

/-- The carry before trip `k`. -/
def accSt : ℕ → FVec F S128x128 .f32
  | 0 => k0_pay218
  | k + 1 => chunkAcc v1 (xval c XA (Ring.bk 64 k)) (startAcc k (accSt k)) 64

/-- Block `k` of the result. -/
def outVal (k : ℕ) : Blk F := blkVal v1 (xval c XA (Ring.bk 64 k)) (startAcc k (accSt c XA v1 k))

/-- The kernel's reset of the carry, in closed form. -/
theorem pay1_eq (k : Fin k0_t1_loop.trips) (acc : FVec F S128x128 .f32) : k0_pay1 0#32 1#32 k acc = startAcc k.val acc := by
  have h : ∀ k : Fin k0_t1_loop.trips, (Scalar.cmpi .eq
      (Scalar.select (Scalar.andi (Scalar.xori (Scalar.cmpi .slt (Scalar.remsi (Scf.iv 0#32 1#32 k) (Scalar.select (Scalar.cmpi .eq 2#32 0#32) 1#32 2#32)) 0#32)
          (Scalar.cmpi .slt (Scalar.select (Scalar.cmpi .eq 2#32 0#32) 1#32 2#32) 0#32))
        (Scalar.cmpi .ne (Scalar.remsi (Scf.iv 0#32 1#32 k) (Scalar.select (Scalar.cmpi .eq 2#32 0#32) 1#32 2#32)) 0#32))
        (Scalar.addi (Scalar.remsi (Scf.iv 0#32 1#32 k) (Scalar.select (Scalar.cmpi .eq 2#32 0#32) 1#32 2#32)) (Scalar.select (Scalar.cmpi .eq 2#32 0#32) 1#32 2#32))
        (Scalar.remsi (Scf.iv 0#32 1#32 k) (Scalar.select (Scalar.cmpi .eq 2#32 0#32) 1#32 2#32))) 0#32 : BitVec 1) = if k.val % 2 = 0 then 1#1 else 0#1 := by
    decide +kernel
  unfold k0_pay1 startAcc
  dsimp only
  rw [h]
  split <;> rfl

/-! ## The rings -/

/-- Slot `s` of the input ring in flight with block `b`; -/
def inFl (s : Fin 4) (b : Fin 64) : sProp 𝕄 :=
  iprop(∃ f : Buf (Elt F) ((inSlot s).view.loc (c : Thread nD τ)), ⌜∀ i, (inSlot s).view.read (Elt F) f i = xval c XA b i⌝
    ∗ Transfers.Flight countersEmb (c : Thread nD τ) (SemLoc.dma (inSem s).sem) () 131072 iprop(inP c s f ∗ xP c XA b))
/-- idle. -/
def inFree (s : Fin 4) : sProp 𝕄 := iprop((∃ f, inP c s f) ∗ inC c s)
/-- Slot `s` of the output ring in flight with result `k`, to block `b`; -/
def outFl (s : Fin 4) (b : Fin 64) (k : ℕ) : sProp 𝕄 :=
  iprop(∃ (f : Buf (Elt F) ((oblk b).view.loc (c : Thread nD τ))) (g : Buf (Elt F) ((outSlot s).view.loc (c : Thread nD τ))),
    ⌜∀ i, (oblk b).view.read (Elt F) f i = outVal c XA v1 k i⌝
    ∗ Transfers.Flight countersEmb (c : Thread nD τ) (SemLoc.dma (outSem s).sem) () 131072 iprop(oP c b f ∗ outP c s g))
/-- idle. -/
def outFree (s : Fin 4) : sProp 𝕄 := iprop((∃ g, outP c s g) ∗ outC c s)
/-- Block `b` of the result, landed. -/
def landed (b : Fin 64) : sProp 𝕄 :=
  iprop(∃ f : Buf (Elt F) ((oblk b).view.loc (c : Thread nD τ)), ⌜∀ i, (oblk b).view.read (Elt F) f i = outVal c XA v1 b.val i⌝ ∗ oP c b f)
/-- Block `b` of the result, not yet written. -/
def blank (b : Fin 64) : sProp 𝕄 := iprop(∃ f, oP c b f)

/-- The input slot trip `p` waits: in flight with block `p`, idle past the last block. -/
def inRole (p : ℕ) : sProp 𝕄 := if p < 64 then inFl c XA (Ring.sl 4 p) (Ring.bk 64 p) else inFree c (Ring.sl 4 p)
/-- The output slot trip `p` waits: in flight with block `p - 4`, idle before there is one. -/
def outRole (p : ℕ) : sProp 𝕄 := if 4 ≤ p then outFl c XA v1 (Ring.sl 4 p) (Ring.bk 64 (p - 4)) (p - 4) else outFree c (Ring.sl 4 p)

/-- A claim held only when `h`. -/
def onlyIf (h : Prop) [Decidable h] (P : sProp 𝕄) : sProp 𝕄 := if h then P else iprop(emp)

/-! ## The waits -/

variable (k : Fin k0_t1_loop.trips)

/-- The weakest precondition on this core. -/
abbrev wpK {α : Type} (p : Prog (TpuEff nD τ sig (Elt F) Λ₀ .tc) α) (Q : α → sProp 𝕄) : sProp 𝕄 :=
  wp Idealize.ShloMosaic.frame (wpE (defs₀ (F := F)) 𝒱₀ (c : Thread nD τ) none) Set.univ p Q

/-- After trip `k`'s waits: its slots are held, the input slot at block `k`, that block home, the result's block `k - 4` landed. -/
def waited : sProp 𝕄 :=
  iprop((∃ f : Buf (Elt F) ((inSlot (Ring.sl 4 k.val)).view.loc (c : Thread nD τ)),
      ⌜∀ i, (inSlot (Ring.sl 4 k.val)).view.read (Elt F) f i = xval c XA (Ring.bk 64 k.val) i⌝ ∗ inP c (Ring.sl 4 k.val) f)
    ∗ inC c (Ring.sl 4 k.val) ∗ xP c XA (Ring.bk 64 k.val) ∗ outFree c (Ring.sl 4 k.val)
    ∗ onlyIf (4 ≤ k.val) (landed c XA v1 (Ring.bk 64 (k.val - 4))) ∗ (∃ W, owes (c : Thread nD τ) 0 W))

/-- A trip's waits: its block's arrival, and from trip 4 on the landing of the block sent from its output slot. -/
theorem wait_wp (hk : k.val < 64) :
    iprop(inRole c XA k.val ∗ outRole c XA v1 k.val ∗ (∃ W, owes (c : Thread nD τ) 0 W))
      ⊢ wpK c (waitP xM oM inM outM cc0_scratch2 cc0_scratch3 k) (fun _ => waited c XA v1 k) := by
  unfold inRole outRole waited onlyIf wpK waitP
  rw [if_pos hk]
  by_cases h4 : 4 ≤ k.val
  · rw [if_pos h4, if_pos h4]
    have hc : k0_cond1 k = 1#1 := (cond1_iff k).mpr h4
    unfold inFl outFl outFree landed
    iintro ⟨⟨%f, %hf, HI⟩, ⟨%fo, %g, %hfo, HO⟩, ⟨%W, HW⟩⟩
    sl_exec
    rw [wp_ret]
    imodintro
    isplitl [HI_dst]; · iexists f; isplitr; · ipureintro; exact hf
                        iexact HI_dst
    isplitl [HI]; · iexact HI
    isplitl [HI_src]; · iexact HI_src
    isplitl [HO_src HO]
    · isplitl [HO_src]; · iexists g; iexact HO_src
      iexact HO
    isplitl [HO_dst]
    · iexists fo; isplitr
      · ipureintro; rw [Ring.bk_val (show k.val - 4 < 64 by omega)]; exact hfo
      · iexact HO_dst
    iexists _; iexact HW
  · rw [if_neg h4, if_neg h4]
    have hc : ¬ k0_cond1 k = 1#1 := fun h => h4 ((cond1_iff k).mp h)
    unfold inFl
    iintro ⟨⟨%f, %hf, HI⟩, HO, ⟨%W, HW⟩⟩
    sl_exec
    rw [wp_ret]
    imodintro
    isplitl [HI_dst]; · iexists f; isplitr; · ipureintro; exact hf
                        iexact HI_dst
    isplitl [HI]; · iexact HI
    isplitl [HI_src]; · iexact HI_src
    isplitl [HO]; · iexact HO
    isplitr; · exact .rfl
    iexists _; iexact HW

/-! ## The starts -/

/-- Before trip `k`'s starts: the input slot and the output slot held, the output slot at result `k`, its block of the
    result at hand, and the operand's block `k + 4` while there is one. -/
def ready (g : Buf (Elt F) ((outSlot (Ring.sl 4 k.val)).view.loc (c : Thread nD τ))) : sProp 𝕄 :=
  iprop(inFree c (Ring.sl 4 k.val) ∗ outP c (Ring.sl 4 k.val) g ∗ outC c (Ring.sl 4 k.val) ∗ blank c (Ring.bk 64 k.val)
    ∗ onlyIf (k.val + 4 < 64) (xP c XA (Ring.bk 64 (k.val + 4))) ∗ (∃ W, owes (c : Thread nD τ) 0 W))

/-- A whole write of a view reads back. -/
theorem read_whole {sp : Space} {s : Shape} {e : EltTy} {κ : Kind} (v : View sig κ sp s e) (f : v.ty.Contents (Elt F)) (w : s.Idx → Elt F e) (i : s.Idx) :
    v.read (Elt F) (v.writes (Elt F) f [⟨Rect.whole s, w⟩]) i = w i :=
  View.read_writes_cons_hit v f (Rect.whole s) w [] i i (funext fun a => Fin.ext (by show 0 + 1 * (i a).val = (i a).val; omega))

/-- A trip's starts: its block is sent to the result, and up to trip 59 the block four on is fetched. -/
theorem start_wp (acc : FVec F S128x128 .f32) (g : Buf (Elt F) ((outSlot (Ring.sl 4 k.val)).view.loc (c : Thread nD τ)))
    (hg : ∀ i, (outSlot (Ring.sl 4 k.val)).view.read (Elt F) g i = outVal c XA v1 k.val i) :
    ready c XA k g
      ⊢ wpK c (startP xM oM inM outM cc0_scratch2 cc0_scratch3 k acc)
          (fun acc' => iprop(⌜acc' = acc⌝ ∗ inRole c XA (k.val + 4) ∗ outRole c XA v1 (k.val + 4) ∗ (∃ W, owes (c : Thread nD τ) 0 W))) := by
  unfold ready inRole outRole onlyIf wpK startP inFree blank
  rw [if_pos (show 4 ≤ k.val + 4 by omega), Nat.add_sub_cancel, Ring.sl_add]
  by_cases h4 : k.val + 4 < 64
  · rw [if_pos h4, if_pos h4]
    have hc : k0_cond2 k = 1#1 := (cond2_iff k).mpr h4
    iintro ⟨⟨⟨%f, HI⟩, HIC⟩, HO, HOC, ⟨%fo, HB⟩, HX, ⟨%W, HW⟩⟩
    sl_exec
    rw [wp_ret]
    imodintro
    isplitr; · ipureintro; rfl
    isplitl [HIC]
    · unfold inFl
      iexists _; isplitr
      swap; · iexact HIC
      ipureintro; intro i; exact read_whole _ _ _ i
    isplitl [HOC]
    · unfold outFl
      iexists _, g; isplitr
      swap; · iexact HOC
      ipureintro; intro i; exact (read_whole _ _ _ i).trans (hg i)
    iexists _; iexact HW
  · rw [if_neg h4, if_neg h4]
    have hc : ¬ k0_cond2 k = 1#1 := fun h => h4 ((cond2_iff k).mp h)
    iintro ⟨⟨⟨%f, HI⟩, HIC⟩, HO, HOC, ⟨%fo, HB⟩, HX, ⟨%W, HW⟩⟩
    sl_exec
    rw [wp_ret]
    imodintro
    isplitr; · ipureintro; rfl
    isplitl [HI HIC]
    · isplitl [HI]; · iexists f; iexact HI
      iexact HIC
    isplitl [HOC]
    · unfold outFl
      iexists _, g; isplitr
      swap; · iexact HOC
      ipureintro; intro i; exact (read_whole _ _ _ i).trans (hg i)
    iexists _; iexact HW

/-! ## The trip -/

/-- What the loop owns before trip `p`, with the carry `acc`: the carry is the trip's; the operand's blocks not in flight;
    the four slots of each ring in the order they are waited; the result's blocks not yet written and those landed. -/
def invAt (p : ℕ) (acc : FVec F S128x128 .f32) : sProp 𝕄 :=
  iprop(⌜acc = accSt c XA v1 p⌝
    ∗ bigSep (Ring.homeSet (NB := 64) 4 p) (xP c XA)
    ∗ (inRole c XA p ∗ inRole c XA (p + 1) ∗ inRole c XA (p + 2) ∗ inRole c XA (p + 3))
    ∗ (outRole c XA v1 p ∗ outRole c XA v1 (p + 1) ∗ outRole c XA v1 (p + 2) ∗ outRole c XA v1 (p + 3))
    ∗ bigSep (Ring.aheadSet (NB := 64) p) (blank c)
    ∗ bigSep (Ring.behindSet (NB := 64) 4 p) (landed c XA v1)
    ∗ (∃ W, owes (c : Thread nD τ) 0 W))

/-- Trip `p`'s block of the operand, and the one it starts, among those not in flight. -/
theorem home_out (p : ℕ) (hp : p < 64) : ∃ S : Finset (Fin 64),
    (bigSep (Ring.homeSet (NB := 64) 4 p) (xP c XA) : sProp 𝕄) = iprop(onlyIf (p + 4 < 64) (xP c XA (Ring.bk 64 (p + 4))) ∗ bigSep S (xP c XA))
    ∧ (bigSep (Ring.homeSet (NB := 64) 4 (p + 1)) (xP c XA) : sProp 𝕄) = iprop(xP c XA (Ring.bk 64 p) ∗ bigSep S (xP c XA)) := by
  by_cases h : p + 4 < 64
  · refine ⟨(Ring.homeSet (NB := 64) 4 p).erase (Ring.bk 64 (p + 4)), ?_, ?_⟩
    · unfold onlyIf; rw [if_pos h]
      conv_lhs => rw [Ring.homeSet_out 4 p h, bigSep_insert (Ring.bkL_not_mem_erase 4 p)]
      rfl
    · conv_lhs => rw [Ring.homeSet_succ 4 p h, bigSep_insert (Ring.bk_not_mem_erase 4 p hp (by decide))]
      rfl
  · refine ⟨Ring.homeSet (NB := 64) 4 p, ?_, ?_⟩
    · unfold onlyIf; rw [if_neg h]
      exact (BI.equiv_iff.mp BI.emp_sep).symm
    · conv_lhs => rw [Ring.homeSet_succ_tail 4 p (by omega) hp, bigSep_insert (Ring.bk_not_mem_homeSet 4 p hp (by decide))]
      rfl

/-- Trip `p`'s block of the result, among those not yet written. -/
theorem blank_out (p : ℕ) (hp : p < 64) :
    (bigSep (Ring.aheadSet (NB := 64) p) (blank c) : sProp 𝕄) = iprop(blank c (Ring.bk 64 p) ∗ bigSep (Ring.aheadSet (NB := 64) (p + 1)) (blank c)) := by
  conv_lhs => rw [Ring.aheadSet_open p hp, bigSep_insert (Ring.bk_not_mem_aheadSet_succ p hp)]
  rfl

/-- The result's block that trip `p` waits, among those landed. -/
theorem landed_in (p : ℕ) (hp : p < 64) :
    (bigSep (Ring.behindSet (NB := 64) 4 (p + 1)) (landed c XA v1) : sProp 𝕄)
      = iprop(onlyIf (4 ≤ p) (landed c XA v1 (Ring.bk 64 (p - 4))) ∗ bigSep (Ring.behindSet (NB := 64) 4 p) (landed c XA v1)) := by
  unfold onlyIf
  by_cases h : 4 ≤ p
  · rw [if_pos h]
    conv_lhs => rw [Ring.behindSet_close 4 p h hp, bigSep_insert (Ring.bk_not_mem_behindSet 4 p h hp)]
    rfl
  · rw [if_neg h, Ring.behindSet_boot 4 (p + 1) (by omega), Ring.behindSet_boot 4 p (by omega)]
    exact (BI.equiv_iff.mp BI.emp_sep).symm

/-- One trip of the loop keeps its invariant. -/
theorem trip_wp (v0 : Vec F S256x256 .bf16) (hv : k0_pay217 v0 = v1) (a1 : Memref sig .tc .vmem S256x256 .bf16) (h0 h1 h2 h3 h4) (acc : FVec F S128x128 .f32) :
    invAt c XA v1 k.val acc
      ⊢ wpK c (k0_t1_body (F := F) xM h0 a1 h1 oM h2 inM h3 outM h4 cc0_scratch2 cc0_scratch3 v0 k acc)
          (fun acc' => invAt c XA v1 (k.val + 1) acc') := by
  have hk : k.val < 64 := Nat.lt_of_lt_of_eq k.isLt trips_eq
  rw [body_eq, hv, pay1_eq]
  unfold wpK
  rw [wp_bind]
  unfold invAt
  obtain ⟨S, e1, e2⟩ := home_out c XA k.val hk
  rw [e1, e2, blank_out c k.val hk, landed_in c XA v1 k.val hk]
  iintro ⟨%ha, ⟨HX, HS⟩, ⟨HI0, HI1, HI2, HI3⟩, ⟨HO0, HO1, HO2, HO3⟩, ⟨HB, HA⟩, HL, HW⟩
  iapply (wp_wand_r Idealize.ShloMosaic.frame (wpE (defs₀ (F := F)) 𝒱₀ (c : Thread nD τ) none) Set.univ)
  isplitl [HI0 HO0 HW]
  · iapply (wait_wp c XA v1 k hk)
    isplitl [HI0]; · iexact HI0
    isplitl [HO0]; · iexact HO0
    iexact HW
  unfold waited outFree
  iintro %_ ⟨⟨%f, %hf, HIP⟩, HIC, HXk, ⟨⟨%g, HOP⟩, HOC⟩, HLk, HW⟩
  rw [wp_bind]
  iapply (wp_wand_r Idealize.ShloMosaic.frame (wpE (defs₀ (F := F)) 𝒱₀ (c : Thread nD τ) none) Set.univ)
  isplitl [HIP HOP HW]
  · iapply (chunks_wp c v1 k (xval c XA (Ring.bk 64 k.val)) (startAcc k.val acc) f hf 64 (Nat.le_refl 64))
    unfold chunkHold
    isplitl [HIP]; · iexact HIP
    isplitl [HOP]
    · iexists g; isplitr
      · ipureintro; intro i hi; exact absurd hi (by omega)
      · iexact HOP
    iexact HW
  unfold chunkHold
  iintro %acc' ⟨%ha', HIP, ⟨%g', %hg', HOP⟩, HW⟩
  iapply (wp_wand_r Idealize.ShloMosaic.frame (wpE (defs₀ (F := F)) 𝒱₀ (c : Thread nD τ) none) Set.univ)
  isplitl [HIP HIC HOP HOC HB HX HW]
  · iapply (start_wp c XA v1 k acc' g' (fun i => by
      rw [outSlot_read, hg' i (by have : (i 1).val < 8192 := (i 1).isLt; omega), ha]; rfl))
    unfold ready inFree
    isplitl [HIP HIC]
    · isplitl [HIP]; · iexists f; iexact HIP
      iexact HIC
    isplitl [HOP]; · iexact HOP
    isplitl [HOC]; · iexact HOC
    isplitl [HB]; · iexact HB
    isplitl [HX]; · iexact HX
    iexact HW
  iintro %acc'' ⟨%ha'', HI4, HO4, HW⟩
  isplitr
  · ipureintro; rw [ha'', ha', ha]; rfl
  isplitl [HXk HS]
  · isplitl [HXk]; · iexact HXk
    iexact HS
  isplitl [HI1 HI2 HI3 HI4]
  · isplitl [HI1]; · iexact HI1
    isplitl [HI2]; · iexact HI2
    isplitl [HI3]; · iexact HI3
    iexact HI4
  isplitl [HO1 HO2 HO3 HO4]
  · isplitl [HO1]; · iexact HO1
    isplitl [HO2]; · iexact HO2
    isplitl [HO3]; · iexact HO3
    iexact HO4
  isplitl [HA]; · iexact HA
  isplitl [HLk HL]
  · isplitl [HLk]; · iexact HLk
    iexact HL
  iexact HW

end Trip

end Cert.Proof.KI

end
-- ==== Proof.KI.BodyRun.lean ====
/-
  The whole body: four copies in started, the 64 trips, the last four copies out waited.
-/
module

public import proofs.«01_k».proof.Proof.KI.Trip

@[expose] public section

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Body

variable (c : Dev nD) (XA : Buf (Elt F) (xM.view.loc (c : Thread nD τ)))
  (a1 : Memref sig .tc .vmem S256x256 .bf16) (h1 : a1.IsWhole)

/-- The body's whole load of the mask. -/
abbrev R00 : Rect S256x256 := Rect.unit (s := S256x256) ![0, 0] S256x256.size inb_S256x256_S256x256_0_0

/-- The mask as the chunks use it, from the mask's buffer. -/
def maskOf (t : Buf (Elt F) (a1.view.loc (c : Thread nD τ))) : FVec F S256x256 .bf16 := k0_pay217 (a1.view.readAt (Elt F) (R00).toLoadRect t)

/-! ## The ends of the loop -/

/-- The four slots of the input ring idle; -/
def inIdle : sProp 𝕄 := iprop(inFree c 0 ∗ inFree c 1 ∗ inFree c 2 ∗ inFree c 3)
/-- of the output ring. -/
def outIdle : sProp 𝕄 := iprop(outFree c 0 ∗ outFree c 1 ∗ outFree c 2 ∗ outFree c 3)

/-- Every block, as the first four and those at home before the first trip. -/
theorem univ_first (Φ : Fin 64 → sProp 𝕄) :
    bigSep (Finset.univ : Finset (Fin 64)) Φ = iprop(Φ 0 ∗ Φ 1 ∗ Φ 2 ∗ Φ 3 ∗ bigSep (Ring.homeSet (NB := 64) 4 0) Φ) := by
  have e : (Finset.univ : Finset (Fin 64)) = insert 0 (insert 1 (insert 2 (insert 3 (Ring.homeSet (NB := 64) 4 0)))) := by decide +kernel
  conv_lhs => rw [e, bigSep_insert (by decide +kernel), bigSep_insert (by decide +kernel), bigSep_insert (by decide +kernel), bigSep_insert (by decide +kernel)]
  rfl

/-- Every block, as the last four and those landed before the last waits. -/
theorem univ_last (Φ : Fin 64 → sProp 𝕄) :
    bigSep (Finset.univ : Finset (Fin 64)) Φ = iprop(Φ 60 ∗ Φ 61 ∗ Φ 62 ∗ Φ 63 ∗ bigSep (Ring.behindSet (NB := 64) 4 64) Φ) := by
  have e : (Finset.univ : Finset (Fin 64)) = insert 60 (insert 61 (insert 62 (insert 63 (Ring.behindSet (NB := 64) 4 64)))) := by decide +kernel
  conv_lhs => rw [e, bigSep_insert (by decide +kernel), bigSep_insert (by decide +kernel), bigSep_insert (by decide +kernel), bigSep_insert (by decide +kernel)]
  rfl

variable (v1 : FVec F S256x256 .bf16)

/-- Before the first trip: the first four blocks in flight. -/
theorem inv_first :
    iprop(bigSep (Ring.homeSet (NB := 64) 4 0) (xP c XA) ∗ (inFl c XA 0 0 ∗ inFl c XA 1 1 ∗ inFl c XA 2 2 ∗ inFl c XA 3 3)
        ∗ outIdle c ∗ bigSep Finset.univ (blank (F := F) c) ∗ (∃ W, owes (c : Thread nD τ) 0 W))
      ⊢ invAt c XA v1 0 (k0_pay218 (F := F)) := by
  unfold invAt outIdle
  rw [Ring.aheadSet_zero, Ring.behindSet_boot 4 0 (by omega)]
  iintro ⟨HX, HI, HO, HB, HW⟩
  isplitr; · ipureintro; rfl
  isplitl [HX]; · iexact HX
  isplitl [HI]; · iexact HI
  isplitl [HO]; · iexact HO
  isplitl [HB]; · iexact HB
  isplitr
  · rw [bigSep_empty]; exact .rfl
  iexact HW

/-- After the last: nothing in flight but the last four results. -/
theorem inv_last (acc : FVec F S128x128 .f32) :
    invAt c XA v1 64 acc
      ⊢ iprop(bigSep Finset.univ (xP c XA) ∗ inIdle c
        ∗ (outFl c XA v1 0 60 60 ∗ outFl c XA v1 1 61 61 ∗ outFl c XA v1 2 62 62 ∗ outFl c XA v1 3 63 63)
        ∗ bigSep (Ring.behindSet (NB := 64) 4 64) (landed c XA v1) ∗ (∃ W, owes (c : Thread nD τ) 0 W)) := by
  have eh : Ring.homeSet (NB := 64) 4 64 = Finset.univ := by decide +kernel
  unfold invAt inIdle
  rw [eh]
  iintro ⟨-, HX, HI, HO, -, HL, HW⟩
  isplitl [HX]; · iexact HX
  isplitl [HI]; · iexact HI
  isplitl [HO]; · iexact HO
  isplitl [HL]; · iexact HL
  iexact HW

/-! ## The body -/

/-- What the body is given: the mask's buffer, the operand's blocks, the result's, and both rings idle. -/
def bodyPre (t : Buf (Elt F) (a1.view.loc (c : Thread nD τ))) : sProp 𝕄 :=
  iprop((a1.view.loc (c : Thread nD τ) ↦[a1.view.set]{fullShare} t) ∗ bigSep Finset.univ (xP c XA) ∗ bigSep Finset.univ (blank (F := F) c)
    ∗ inIdle c ∗ outIdle c ∗ (∃ W, owes (c : Thread nD τ) 0 W))
/-- What it gives back: the same, with every block of the result landed. -/
def bodyPost (t : Buf (Elt F) (a1.view.loc (c : Thread nD τ))) : sProp 𝕄 :=
  iprop((a1.view.loc (c : Thread nD τ) ↦[a1.view.set]{fullShare} t) ∗ bigSep Finset.univ (xP c XA) ∗ bigSep Finset.univ (landed c XA (maskOf c a1 t))
    ∗ inIdle c ∗ outIdle c ∗ (∃ W, owes (c : Thread nD τ) 0 W))

/-- The body's run: from the operand's blocks, the result's blocks not yet written, both rings idle and the mask's buffer, it ends with the result's blocks landed and the rest as it was. -/
theorem bodyRun (t : Buf (Elt F) (a1.view.loc (c : Thread nD τ))) (h0 h2 h3 h4) (Q : PUnit → sProp 𝕄) :
    iprop(bodyPre c XA a1 t ∗ (bodyPost c XA a1 t -∗ Q ⟨⟩))
      ⊢ wpK c (cc0__cumsum_kernel (F := F) xM h0 a1 h1 oM h2 inM h3 outM h4 cc0_scratch2 cc0_scratch3) Q := by
  unfold bodyPre wpK
  rw [univ_first]
  unfold inIdle inFree
  iintro ⟨⟨HT, ⟨HX0, HX1, HX2, HX3, HX⟩, HB, ⟨⟨⟨%f0, HI0⟩, HC0⟩, ⟨⟨%f1, HI1⟩, HC1⟩, ⟨⟨%f2, HI2⟩, HC2⟩, ⟨⟨%f3, HI3⟩, HC3⟩⟩, HO, ⟨%W, HW⟩⟩, HK⟩
  sl_exec
  rw [wp_bind]
  iapply (wp_wand_r Idealize.ShloMosaic.frame (wpE (defs₀ (F := F)) 𝒱₀ (c : Thread nD τ) none) Set.univ)
  isplitl [HX HC0 HC1 HC2 HC3 HO HB HW]
  · iapply (Scf.wp_for Idealize.ShloMosaic.frame (wpE (defs₀ (F := F)) 𝒱₀ (c : Thread nD τ) none) Set.univ
      k0_t1_loop.lb k0_t1_loop.ub k0_t1_loop.st k0_t1_ok _ _ (fun p acc => invAt c XA (maskOf c a1 t) p acc)
      (fun k acc => trip_wp c XA (maskOf c a1 t) k _ rfl a1 _ _ _ _ _ acc))
    isplitl [HX HC0 HC1 HC2 HC3 HO HB HW]
    · iapply (inv_first c XA (maskOf c a1 t))
      isplitl [HX]; · iexact HX
      isplitl [HC0 HC1 HC2 HC3]
      · unfold inFl
        isplitl [HC0]
        · iexists _; isplitr
          swap; · iexact HC0
          ipureintro; intro i; exact read_whole _ _ _ i
        isplitl [HC1]
        · iexists _; isplitr
          swap; · iexact HC1
          ipureintro; intro i; exact read_whole _ _ _ i
        isplitl [HC2]
        · iexists _; isplitr
          swap; · iexact HC2
          ipureintro; intro i; exact read_whole _ _ _ i
        iexists _; isplitr
        swap; · iexact HC3
        ipureintro; intro i; exact read_whole _ _ _ i
      isplitl [HO]; · iexact HO
      isplitl [HB]; · iexact HB
      iexists _; iexact HW
    iintro %acc HI
    iexact HI
  iintro %acc HI
  rw [show Scf.trips k0_t1_loop.lb k0_t1_loop.ub k0_t1_loop.st = 64 from trips_eq]
  ihave HI := (inv_last c XA (maskOf c a1 t) acc) $$ HI
  unfold outFl
  icases HI with ⟨HX, HI, ⟨⟨%y0, %g0, %e0, HO0⟩, ⟨%y1, %g1, %e1, HO1⟩, ⟨%y2, %g2, %e2, HO2⟩, ⟨%y3, %g3, %e3, HO3⟩⟩, HL, ⟨%W', HW⟩⟩
  sl_exec
  rw [wp_ret]
  imodintro
  iapply HK
  unfold bodyPost
  rw [univ_last (landed c XA (maskOf c a1 t))]
  unfold outIdle outFree landed
  isplitl [HT]; · iexact HT
  isplitl [HX]; · iexact HX
  isplitl [HL HO0_dst HO1_dst HO2_dst HO3_dst]
  · isplitl [HO0_dst]
    · iexists y0; isplitr; · ipureintro; exact e0
      iexact HO0_dst
    isplitl [HO1_dst]
    · iexists y1; isplitr; · ipureintro; exact e1
      iexact HO1_dst
    isplitl [HO2_dst]
    · iexists y2; isplitr; · ipureintro; exact e2
      iexact HO2_dst
    isplitl [HO3_dst]
    · iexists y3; isplitr; · ipureintro; exact e3
      iexact HO3_dst
    iexact HL
  isplitl [HI]; · iexact HI
  isplitl [HO0 HO1 HO2 HO3 HO0_src HO1_src HO2_src HO3_src]
  · isplitl [HO0 HO0_src]
    · isplitl [HO0_src]; · iexists g0; iexact HO0_src
      iexact HO0
    isplitl [HO1 HO1_src]
    · isplitl [HO1_src]; · iexists g1; iexact HO1_src
      iexact HO1
    isplitl [HO2 HO2_src]
    · isplitl [HO2_src]; · iexists g2; iexact HO2_src
      iexact HO2
    isplitl [HO3_src]; · iexists g3; iexact HO3_src
    iexact HO3
  iexists _; iexact HW

end Body

end Cert.Proof.KI

end
-- ==== Proof.KI.Launch.lean ====
/-
  The launch: the arrays and buffers as blocks and slots, the pipeline's proof data, the body obligation, and the run of
  @main to its final state.
-/
module

public import proofs.«01_k».proof.Proof.KI.BodyRun
public import proofs.«01_k».proof.Proof.Gen.KernelIdeal.Frame

@[expose] public section

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]

local notation "𝕄" => MT nD τ sig Unit (Elt F) ℕ (UU nD τ) ℕ

/-- Equal assertions, as an entailment. -/
theorem eq_entails {P Q : sProp 𝕄} (e : P = Q) : P ⊢ Q := e ▸ .rfl

/-! ## Element sets: the arrays' sixty-four blocks, the buffers' four slots -/

/-- The elements of block `b` of an array. -/
abbrev GB (b : Fin 64) : Finset S4096x16384.Idx := (Rect.unit (s := S4096x16384) (blkOff b) S128x8192.size (blkOff_inb b)).set
/-- The elements of slot `s` of a buffer. -/
abbrev GS (s : Fin 4) : Finset S4x128x8192.Idx := (Rect.unit (s := S4x128x8192) (slotOff s) S1x128x8192.size (slotOff_inb s)).set

/-- Block `b` of the operand covers them; -/
theorem xblk_set (b : Fin 64) : (xblk b).view.set = GB b := View.set_slice_whole _ _
/-- so does the result's; -/
theorem oblk_set (b : Fin 64) : (oblk b).view.set = GB b := View.set_slice_whole _ _
/-- an input slot covers its own; -/
theorem inSlot_set (s : Fin 4) : (inSlot s).view.set = GS s := (View.set_reshape _ _).trans (View.set_slice_whole _ _)
/-- so does an output slot. -/
theorem outSlot_set (s : Fin 4) : (outSlot s).view.set = GS s := (View.set_reshape _ _).trans (View.set_slice_whole _ _)

/-- An element's block. -/
def blkOf (y : S4096x16384.Idx) : Fin 64 :=
  ⟨(y 0).val / 128 * 2 + (y 1).val / 8192, by
    have h0 : (y 0).val < 4096 := (y 0).isLt
    have h1 : (y 1).val < 16384 := (y 1).isLt
    omega⟩
/-- An element's place in its block. -/
def locOf (y : S4096x16384.Idx) : S128x8192.Idx :=
  ix2 ⟨(y 0).val % 128, Nat.mod_lt _ (by decide)⟩ ⟨(y 1).val % 8192, Nat.mod_lt _ (by decide)⟩

/-- An element is in block `b` exactly when its block is `b`. -/
theorem mem_GB (b : Fin 64) (y : S4096x16384.Idx) : y ∈ GB b ↔ blkOf y = b := by
  rw [Rect.mem_set_unit, Fin.ext_iff]
  have h0 : (y 0).val < 4096 := (y 0).isLt
  have h1 : (y 1).val < 16384 := (y 1).isLt
  have hb := b.isLt
  constructor
  · intro H
    have a0 : b.val / 2 * 128 ≤ (y 0).val ∧ (y 0).val < b.val / 2 * 128 + 128 := H 0
    have a1 : b.val % 2 * 8192 ≤ (y 1).val ∧ (y 1).val < b.val % 2 * 8192 + 8192 := H 1
    show (y 0).val / 128 * 2 + (y 1).val / 8192 = b.val
    omega
  · intro H
    have H : (y 0).val / 128 * 2 + (y 1).val / 8192 = b.val := H
    intro i; fin_cases i
    · show b.val / 2 * 128 ≤ (y 0).val ∧ (y 0).val < b.val / 2 * 128 + 128; omega
    · show b.val % 2 * 8192 ≤ (y 1).val ∧ (y 1).val < b.val % 2 * 8192 + 8192; omega
/-- An element is in slot `s` exactly when its first coordinate is `s`. -/
theorem mem_GS (s : Fin 4) (y : S4x128x8192.Idx) : y ∈ GS s ↔ (y 0).val = s.val := by
  rw [Rect.mem_set_unit]
  have h1 : (y 1).val < 128 := (y 1).isLt
  have h2 : (y 2).val < 8192 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 128; omega
    · show 0 ≤ (y 2).val ∧ (y 2).val < 0 + 8192; omega
/-- Two blocks share no element. -/
theorem GB_disjoint : ∀ b b' : Fin 64, b ≠ b' → Disjoint (GB b) (GB b') := by
  intro b b' hne; rw [Finset.disjoint_left]; intro y hy hy'; rw [mem_GB] at hy hy'; exact hne (hy.symm.trans hy')
/-- The blocks cover the array. -/
theorem GB_cover : (Finset.univ : Finset (Fin 64)).biUnion GB = Finset.univ := by
  ext y; simp only [Finset.mem_biUnion, Finset.mem_univ, true_and, iff_true]; exact ⟨blkOf y, by rw [mem_GB]⟩
/-- Two slots share no element. -/
theorem GS_disjoint : ∀ s s' : Fin 4, s ≠ s' → Disjoint (GS s) (GS s') := by
  intro s s' hne; rw [Finset.disjoint_left]; intro y hy hy'; rw [mem_GS] at hy hy'; exact hne (Fin.ext (hy.symm.trans hy'))
/-- The slots cover the buffer. -/
theorem GS_cover : (Finset.univ : Finset (Fin 4)).biUnion GS = Finset.univ := by
  ext y; simp only [Finset.mem_biUnion, Finset.mem_univ, true_and, iff_true]; exact ⟨(y 0).cast (by decide), by rw [mem_GS]; rfl⟩

/-- Block `b`'s element at an element's place in it is that element. -/
theorem oblk_emb (b : Fin 64) (y : S4096x16384.Idx) (hy : blkOf y = b) : (oblk b).view.emb (locOf y) = y := by
  subst hy
  have h0 : (y 0).val < 4096 := (y 0).isLt
  have h1 : (y 1).val < 16384 := (y 1).isLt
  funext a; apply Fin.ext; fin_cases a
  · show ((y 0).val / 128 * 2 + (y 1).val / 8192) / 2 * 128 + 1 * ((y 0).val % 128) = (y 0).val; omega
  · show ((y 0).val / 128 * 2 + (y 1).val / 8192) % 2 * 8192 + 1 * ((y 1).val % 8192) = (y 1).val; omega

/-- A separating product over four, written out; -/
theorem bigSep_fin4 (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ
/-- over eight. -/
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ

section Pieces

variable (c : Dev nD) (XA : Buf (Elt F) (xM.view.loc (c : Thread nD τ)))

/-- The operand whole is its blocks. -/
theorem x_eq : (((c : Thread nD τ).loc main_arg0) ↦{fullShare} XA : sProp 𝕄) = bigSep Finset.univ (xP c XA) := by
  rw [Ring.pointsTo_blocks (ℓ := (c : Thread nD τ).loc main_arg0) GB GB_disjoint GB_cover]
  exact bigSep_congr fun b _ => by rw [← xblk_set]; rfl

/-- A block of the result at any contents is a block not yet written. -/
theorem blank_blk (b : Fin 64) (f : Buf (Elt F) ((c : Thread nD τ).loc main_v0)) :
    (((c : Thread nD τ).loc main_v0) ↦[GB b]{fullShare} f : sProp 𝕄) ⊢ blank (F := F) c b := by
  rw [← oblk_set]
  unfold blank
  iintro H; iexists f; iexact H
/-- The result at any contents gives its blocks unwritten. -/
theorem blank_of (f : Buf (Elt F) ((c : Thread nD τ).loc main_v0)) :
    (((c : Thread nD τ).loc main_v0) ↦{fullShare} f : sProp 𝕄) ⊢ bigSep Finset.univ (blank (F := F) c) := by
  rw [Ring.pointsTo_blocks (ℓ := (c : Thread nD τ).loc main_v0) GB GB_disjoint GB_cover]
  exact bigSep_mono fun b _ => blank_blk c b f

/-- The result, every block landed. -/
def outBuf (v1 : FVec F S256x256 .bf16) : Buf (Elt F) ((c : Thread nD τ).loc main_v0) :=
  fun y : S4096x16384.Idx => outVal c XA v1 (blkOf y).val (locOf y)

/-- A block landed holds the result's. -/
theorem landed_blk (v1 : FVec F S256x256 .bf16) (b : Fin 64) :
    landed c XA v1 b ⊢ (((c : Thread nD τ).loc main_v0) ↦[GB b]{fullShare} outBuf c XA v1 : sProp 𝕄) := by
  unfold landed
  iintro ⟨%f, %hf, H⟩
  iapply (eq_entails (show (oP c b f : sProp 𝕄) = (((c : Thread nD τ).loc main_v0) ↦[GB b]{fullShare} outBuf c XA v1) from by
    rw [← oblk_set]
    refine pointsTo_congr fun y hy => ?_
    rw [oblk_set] at hy
    have hy := (mem_GB b y).mp hy
    have h := hf (locOf y)
    exact (congrArg f (oblk_emb b y hy)).symm.trans (h.trans (by rw [← hy]; rfl))))
  iexact H
/-- The blocks landed are the result whole. -/
theorem out_of_landed (v1 : FVec F S256x256 .bf16) :
    bigSep Finset.univ (landed c XA v1) ⊢ (((c : Thread nD τ).loc main_v0) ↦{fullShare} outBuf c XA v1 : sProp 𝕄) := by
  rw [Ring.pointsTo_blocks (ℓ := (c : Thread nD τ).loc main_v0) GB GB_disjoint GB_cover]
  exact bigSep_mono fun b _ => landed_blk c XA v1 b

/-- Owning an input slot is owning its elements of the buffer; -/
theorem inP_eq (s : Fin 4) (f) : inP c s f = (((c : Thread nD τ).loc cc0_scratch0) ↦[GS s]{fullShare} f : sProp 𝕄) :=
  congrArg (fun S => (_ ↦[S]{fullShare} f : sProp 𝕄)) (inSlot_set s)
/-- likewise an output slot. -/
theorem outP_eq (s : Fin 4) (f) : outP c s f = (((c : Thread nD τ).loc cc0_scratch1) ↦[GS s]{fullShare} f : sProp 𝕄) :=
  congrArg (fun S => (_ ↦[S]{fullShare} f : sProp 𝕄)) (outSlot_set s)

/-- The input buffer whole is its four slots, and back; -/
theorem inBuf_split :
    iprop(∃ f : Buf (Elt F) ((c : Thread nD τ).loc cc0_scratch0), ((c : Thread nD τ).loc cc0_scratch0) ↦{fullShare} f)
      ⊢ (iprop((∃ f, inP c 0 f) ∗ (∃ f, inP c 1 f) ∗ (∃ f, inP c 2 f) ∗ ∃ f, inP c 3 f) : sProp 𝕄) := by
  iintro ⟨%f, H⟩
  ihave H2 := (eq_entails ((Ring.pointsTo_blocks (Ix := Unit) (Name := ℕ) (U := UU nD τ) (Lvl := ℕ) (q := fullShare) (ℓ := (c : Thread nD τ).loc cc0_scratch0) GS GS_disjoint GS_cover f).trans (bigSep_fin4 _))) $$ H
  icases H2 with ⟨H0, H1, H2, H3⟩
  isplitl [H0]; · iexists f; iapply (eq_entails (inP_eq c 0 f).symm); iexact H0
  isplitl [H1]; · iexists f; iapply (eq_entails (inP_eq c 1 f).symm); iexact H1
  isplitl [H2]; · iexists f; iapply (eq_entails (inP_eq c 2 f).symm); iexact H2
  iexists f; iapply (eq_entails (inP_eq c 3 f).symm); iexact H3
/-- The four slots give back the input buffer; -/
theorem inBuf_join :
    iprop((∃ f, inP c 0 f) ∗ (∃ f, inP c 1 f) ∗ (∃ f, inP c 2 f) ∗ ∃ f, inP c 3 f)
      ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩, ⟨%f2, H2⟩, ⟨%f3, H3⟩⟩
  iapply (Ring.pointsTo_blocks_join_exists (ℓ := (c : Thread nD τ).loc cc0_scratch0) GS GS_disjoint GS_cover f0)
  irw [bigSep_fin4]
  isplitl [H0]; · iexists f0; iapply (eq_entails (inP_eq c 0 f0)); iexact H0
  isplitl [H1]; · iexists f1; iapply (eq_entails (inP_eq c 1 f1)); iexact H1
  isplitl [H2]; · iexists f2; iapply (eq_entails (inP_eq c 2 f2)); iexact H2
  iexists f3; iapply (eq_entails (inP_eq c 3 f3)); iexact H3
/-- the output buffer too. -/
theorem outBuf_split :
    iprop(∃ f : Buf (Elt F) ((c : Thread nD τ).loc cc0_scratch1), ((c : Thread nD τ).loc cc0_scratch1) ↦{fullShare} f)
      ⊢ (iprop((∃ f, outP c 0 f) ∗ (∃ f, outP c 1 f) ∗ (∃ f, outP c 2 f) ∗ ∃ f, outP c 3 f) : sProp 𝕄) := by
  iintro ⟨%f, H⟩
  ihave H2 := (eq_entails ((Ring.pointsTo_blocks (Ix := Unit) (Name := ℕ) (U := UU nD τ) (Lvl := ℕ) (q := fullShare) (ℓ := (c : Thread nD τ).loc cc0_scratch1) GS GS_disjoint GS_cover f).trans (bigSep_fin4 _))) $$ H
  icases H2 with ⟨H0, H1, H2, H3⟩
  isplitl [H0]; · iexists f; iapply (eq_entails (outP_eq c 0 f).symm); iexact H0
  isplitl [H1]; · iexists f; iapply (eq_entails (outP_eq c 1 f).symm); iexact H1
  isplitl [H2]; · iexists f; iapply (eq_entails (outP_eq c 2 f).symm); iexact H2
  iexists f; iapply (eq_entails (outP_eq c 3 f).symm); iexact H3
/-- the four slots give back it too. -/
theorem outBuf_join :
    iprop((∃ f, outP c 0 f) ∗ (∃ f, outP c 1 f) ∗ (∃ f, outP c 2 f) ∗ ∃ f, outP c 3 f)
      ⊢ (iprop(∃ f : Buf (Elt F) ((c : Thread nD τ).loc cc0_scratch1), ((c : Thread nD τ).loc cc0_scratch1) ↦{fullShare} f) : sProp 𝕄) := by
  iintro ⟨⟨%f0, H0⟩, ⟨%f1, H1⟩, ⟨%f2, H2⟩, ⟨%f3, H3⟩⟩
  iapply (Ring.pointsTo_blocks_join_exists (ℓ := (c : Thread nD τ).loc cc0_scratch1) GS GS_disjoint GS_cover f0)
  irw [bigSep_fin4]
  isplitl [H0]; · iexists f0; iapply (eq_entails (outP_eq c 0 f0)); iexact H0
  isplitl [H1]; · iexists f1; iapply (eq_entails (outP_eq c 1 f1)); iexact H1
  isplitl [H2]; · iexists f2; iapply (eq_entails (outP_eq c 2 f2)); iexact H2
  iexists f3; iapply (eq_entails (outP_eq c 3 f3)); iexact H3

end Pieces

/-! ## The kernel's own semaphores: the two rings' cells -/

/-- The kernel's own semaphores, the four of the input ring and the four of the output ring. -/
abbrev osem : Fin 8 → SemLoc sig :=
  ![.dma (inSem 0).sem, .dma (inSem 1).sem, .dma (inSem 2).sem, .dma (inSem 3).sem,
    .dma (outSem 0).sem, .dma (outSem 1).sem, .dma (outSem 2).sem, .dma (outSem 3).sem]
/-- They are distinct and none of them is the pipeline's. -/
theorem ownSemFacts : Pipeline.OwnSemFacts spec0 osem := by decide

/-- The kernel's own cells at zero are the two rings' cells. -/
theorem ownSems0_eq (c : Dev nD) : (Pipeline.ownSems0 (Ix := Unit) (Name := ℕ) (U := UU nD τ) (Lvl := ℕ) (Val := Elt F) (τ := τ) osem c : sProp 𝕄)
    = iprop(inC c 0 ∗ inC c 1 ∗ inC c 2 ∗ inC c 3 ∗ outC c 0 ∗ outC c 1 ∗ outC c 2 ∗ outC c 3) := by
  unfold Pipeline.ownSems0; rw [bigSep_fin8]; rfl

section Run

variable (m : (ℓ : Loc nD τ sig) → Buf (Elt F) ℓ) (ρ : Dev nD → PrngReg)

/-! ## The pipeline's proof data -/

/-- The staging buffer of the mask at a grid point. -/
abbrev st0 (t : Fin cfg0.N) : Memref sig .tc .vmem S256x256 .bf16 := win0_0.stage (cfg0.slots t 0)
/-- It is a whole buffer. -/
abbrev hst0 (t : Fin cfg0.N) : (st0 t).IsWhole := hstage0_0 0

/-- The operand, as the region finds it. -/
abbrev XA (c : Dev nD) : Buf (Elt F) (xM.view.loc (c : Thread nD τ)) := V m c main_arg0
/-- The mask the body loads. -/
def mask (c : Dev nD) : FVec F S256x256 .bf16 := maskOf c (st0 t0_0) ((st0 t0_0).view.rep (Gen.iblk m c 0 t0_0))

/-- The region before its one point: the operand's blocks, the result's unwritten, both rings idle; -/
def Φ0 (c : Dev nD) : sProp 𝕄 := iprop(bigSep Finset.univ (xP c (XA m c)) ∗ bigSep Finset.univ (blank (F := F) c) ∗ inIdle c ∗ outIdle c)
/-- after it: the same, the result's blocks landed. -/
def Φ1 (c : Dev nD) : sProp 𝕄 := iprop(bigSep Finset.univ (xP c (XA m c)) ∗ bigSep Finset.univ (landed c (XA m c) (mask m c)) ∗ inIdle c ∗ outIdle c)

/-- The pipeline's proof data: the mask's array, left as it is, and what the region holds before and after its one point. -/
def dats (_ : Fin 1) (c : Dev nD) : Dat τ (Elt F) Unit ℕ (UU nD τ) ℕ cfg0 c where
  A w := V m c (Pipeline.arrRef spec0 w)
  after w t := match w with
    | ⟨0, _⟩ => Gen.iblk m c 0 t
  Φ p := if p.val = 0 then Φ0 m c else Φ1 m c
  q _ := fullShare
  owed _ := 0

/-- Before the body the mask's staging buffer holds the mask's array. -/
theorem before_w0 (c : Dev nD) (t : Fin cfg0.N) (d) : (dats m 0 c).before 0 t d = Gen.iblk m c 0 t := by
  unfold Dat.before; rw [if_pos (fetch0_0 t)]; unfold Dat.fetched Dat.blockOf Gen.iblk; dsimp only [dats]; rfl
/-- So does it after. -/
theorem after_w0 (c : Dev nD) (t : Fin cfg0.N) : (dats m 0 c).after 0 t = Gen.iblk m c 0 t := by dsimp only [dats]

/-! ## The body obligation -/

/-- The kernel's body, at a staging buffer for its mask. -/
abbrev bodyG (a1 : Memref sig .tc .vmem S256x256 .bf16) (h1 : a1.IsWhole) :=
  cc0__cumsum_kernel (F := F) xM (Memref.isWhole_whole _) a1 h1 oM (Memref.isWhole_whole _) inM (Memref.isWhole_whole _) outM (Memref.isWhole_whole _) cc0_scratch2 cc0_scratch3

/-- The region's body is that; -/
theorem defs_tc : (defs₀ (F := F)) .tc cfg0.body = fun a => bodyG (win0_0.stage (a.2 0)) (hstage0_0 0) := rfl
/-- at a grid point it is that at the point's staging buffer. -/
theorem prog_eq (t : Fin cfg0.N) : (defs₀ (F := F)) .tc cfg0.body (cfg0.bodyArgs t (cfg0.slots t)) = bodyG (st0 t) (hst0 t) :=
  (congrFun defs_tc _).trans rfl

set_option backward.isDefEq.respectTransparency.types false in
/-- The body meets what the pipeline asks of it at its one grid point. -/
theorem body_obligation (c : Dev nD) : BodyObligation (dats (F := F) m 0 c) (defs₀ (F := F)) 𝒱₀ () Set.univ := fun t => by
  obtain rfl := fin_N0 t
  rw [bigSep_W0, bigSep_W0]
  dsimp only
  simp only [before_w0, after_w0]
  rw [show (dats m 0 c).Φ (Fin.castSucc t0_0) = Φ0 m c from rfl, show (dats m 0 c).Φ (Fin.succ t0_0) = Φ1 m c from rfl]
  unfold Dat.owesAt Pipeline.owesWithin
  rw [show (dats m 0 c).owed (Fin.castSucc t0_0) = 0 from rfl, show (dats m 0 c).owed (Fin.succ t0_0) = 0 from rfl]
  unfold owns Φ0 Φ1
  iintro ⟨⟨HX, HB, HI, HO⟩, ⟨%W, -, HW⟩, ⟨%d0, %g0, %hg0, Hng⟩⟩
  ihave Hng' := (pointsTo_rep_entails (c : Thread nD τ) (st0 t0_0) g0 fullShare) $$ Hng
  rw [hg0]
  sl_rw [prog_eq t0_0]
  iapply (bodyRun c (XA m c) (st0 t0_0) _ _ _ _ _ _)
  unfold bodyPre bodyPost
  isplitl [Hng' HX HB HI HO HW]
  · isplitl [Hng']; · iexact Hng'
    isplitl [HX]; · iexact HX
    isplitl [HB]; · iexact HB
    isplitl [HI]; · iexact HI
    isplitl [HO]; · iexact HO
    iexists W; iexact HW
  · iintro ⟨Hng, HX, HL, HI, HO, ⟨%W', HW⟩⟩
    isplitl [HX HL HI HO]
    · isplitl [HX]; · iexact HX
      isplitl [HL]; · iexact HL
      isplitl [HI]; · iexact HI
      iexact HO
    isplitl [HW]
    · iexists W'; isplitr; · ipureintro; exact fun _ _ => Or.inl trivial
      iexact HW
    iexists _; isplitr; · ipureintro; exact View.read_rep _ _
    iexact Hng

/-! ## The run -/

/-- What the launch gives the region. -/
def intoΦ (c : Dev nD) : sProp 𝕄 :=
  iprop(bigSep Finset.univ (xP c (XA m c)) ∗ bigSep Finset.univ (blank (F := F) c) ∗ Pipeline.ownSems0 osem c)
/-- What the region gives back. -/
def outOfΦ (c : Dev nD) : sProp 𝕄 :=
  iprop((((c : Thread nD τ).loc main_arg0) ↦{fullShare} XA m c) ∗ (((c : Thread nD τ).loc main_v0) ↦{fullShare} outBuf c (XA m c) (mask m c)))
/-- The ghost state the launch starts from. -/
def u₀ : UU nD τ := (initOf (Pipeline.cells cfgs Gen.cellOf_inj) (Pipeline.launchToks cfgs Gen.cellOf_inj), 1)
/-- A final state, on core `c`: the operand as launched, the result every block landed. -/
def QY (c : Dev nD) (s : MemSt nD τ sig (Elt F)) : Prop :=
  s.mem ((c : Thread nD τ).loc main_arg0) = XA m c ∧ s.mem ((c : Thread nD τ).loc main_v0) = outBuf c (XA m c) (mask m c)

set_option maxHeartbeats 800000 in
/-- The program is its host operations, then the region. -/
theorem hmainU : Pipeline.HMain (Ix := Unit) (Name := ℕ) (U := UU nD τ) (Lvl := ℕ) cfgs 0 defs₀ 𝒱₀ m (main (F := F)) (V m) :=
  Pipeline.hmain_prefix cfgs 0 defs₀ 𝒱₀ m main hostOps0 hostOps0_sub Gen.hostOps0_fresh main_chain

set_option backward.isDefEq.respectTransparency.types false in
/-- From any memory with zero counters, for any float values: every weakly fair execution of @main on the TensorCores
    terminates, and every final state has the operand unchanged, the result at the computed contents and every semaphore
    counter at zero. -/
theorem run_main : θ_run defs (onTc (τ := τ) (main (F := F))) (s₀ m ρ) (fun r => (∀ c : Dev nD, QY m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := hmainU m)
    (hA := fun _ _ => rfl)
    (X := intoΦ m) (Y := outOfΦ m) (Z := fun _ => iprop(emp))
    (hX := fun c => by
      rw [unscopedRest0_eq, x_eq c (XA m c)]
      unfold intoΦ
      iintro ⟨⟨H0, -, -, -, -, -, -, -, -, -, -, -, -, -, -, HV⟩, HS, -, -, -⟩; imodintro
      isplitl [H0 HV HS]
      · isplitl [H0]; · iexact H0
        isplitl [HV]; · iapply (blank_of c _) $$ HV
        iexact HS
      iempintro)
    (hin := fun c => by
      rw [scopedRest0_eq, show (dats m 0 c).Φ 0 = Φ0 m c from rfl]
      unfold intoΦ Φ0; rw [ownSems0_eq]
      unfold inIdle outIdle inFree outFree
      iintro ⟨⟨H0, HB, I0, I1, I2, I3, O0, O1, O2, O3⟩, Hi, Ho⟩
      ihave Hi := (inBuf_split c) $$ Hi
      icases Hi with ⟨J0, J1, J2, J3⟩
      ihave Ho := (outBuf_split c) $$ Ho
      icases Ho with ⟨P0, P1, P2, P3⟩
      isplitl [H0]; · iexact H0
      isplitl [HB]; · iexact HB
      isplitl [I0 I1 I2 I3 J0 J1 J2 J3]
      · isplitl [I0 J0]
        · isplitl [J0]; · iexact J0
          iexact I0
        isplitl [I1 J1]
        · isplitl [J1]; · iexact J1
          iexact I1
        isplitl [I2 J2]
        · isplitl [J2]; · iexact J2
          iexact I2
        isplitl [J3]; · iexact J3
        iexact I3
      isplitl [O0 P0]
      · isplitl [P0]; · iexact P0
        iexact O0
      isplitl [O1 P1]
      · isplitl [P1]; · iexact P1
        iexact O1
      isplitl [O2 P2]
      · isplitl [P2]; · iexact P2
        iexact O2
      isplitl [P3]; · iexact P3
      iexact O3)
    (hout := fun c => by
      rw [scopedRest0_eq, show (dats m 0 c).Φ (Fin.last cfg0.N) = Φ1 m c from rfl, ownSems0_eq]
      unfold Φ1 outOfΦ; rw [← x_eq c (XA m c)]
      unfold inIdle outIdle inFree outFree
      iintro ⟨H0, HL, ⟨⟨J0, I0⟩, ⟨J1, I1⟩, ⟨J2, I2⟩, ⟨J3, I3⟩⟩, ⟨⟨P0, O0⟩, ⟨P1, O1⟩, ⟨P2, O2⟩, ⟨P3, O3⟩⟩⟩
      isplitl [H0 HL]
      · isplitl [H0]; · iexact H0
        iapply (out_of_landed c (XA m c) (mask m c)); iexact HL
      isplitl [I0 I1 I2 I3 O0 O1 O2 O3]
      · isplitl [I0]; · iexact I0
        isplitl [I1]; · iexact I1
        isplitl [I2]; · iexact I2
        isplitl [I3]; · iexact I3
        isplitl [O0]; · iexact O0
        isplitl [O1]; · iexact O1
        isplitl [O2]; · iexact O2
        iexact O3
      isplitl [J0 J1 J2 J3]
      · iapply (inBuf_join c)
        isplitl [J0]; · iexact J0
        isplitl [J1]; · iexact J1
        isplitl [J2]; · iexact J2
        iexact J3
      iapply (outBuf_join c)
      isplitl [P0]; · iexact P0
      isplitl [P1]; · iexact P1
      isplitl [P2]; · iexact P2
      iexact P3)
    (QY := QY m)
    (hY := fun c s' => by
      unfold outOfΦ
      iintro ⟨⟨H0, H1⟩, -, HSI⟩
      icombine HSI H0 gives %h0
      icombine HSI H1 gives %h1
      imodintro
      isplitr; · ipureintro; exact ⟨Buf.eq_of_forall_mem_univ h0, Buf.eq_of_forall_mem_univ h1⟩
      iexact HSI)
    (hQ := fun _ hh hz => ⟨fun c => (hh c).2, hz⟩)

/-- The run's end in the launch's own terms: the operand as launched, and the result read off it. -/
theorem run_final : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_v0) = outBuf c (m ((c : Thread nD τ).loc main_arg0)) (mask m c)) ∧ r.2.sem = fun _ => 0) :=
  (θ_run defs _ _).mono (fun r hh => ⟨fun c => by
    have e : XA m c = m ((c : Thread nD τ).loc main_arg0) := Gen.V_main_arg0 m c
    obtain ⟨a, b⟩ := hh.1 c
    exact ⟨a.trans e, b.trans (by rw [e])⟩, hh.2⟩) (run_main m ρ)

end Run

end Cert.Proof.KI

end
-- ==== Proof.Sums.lean ====
/-
  Prefix sums of the rows of a 4096 × 16384 array of extended reals, over natural-number column counts: what the reference's
  windowed sum and the kernel's chunked products are both brought to.
-/
module

public import Idealize.ShloMosaic.PureOps.Ideal
public import Idealize.ShloMosaic.Lib.ValueIdx
public import Mathlib.Algebra.BigOperators.Fin

@[expose] public section

noncomputable section

namespace Cert.Proof.Sums

open Idealize.ShloMosaic Idealize.ShloMosaic.ValueIdx
open scoped BigOperators

/-- A 4096 × 16384 array of extended reals. -/
abbrev Arr : Type := (⟨2, ![4096, 16384]⟩ : Shape).Idx → EReal

/-- Column `k` of row `r`, zero past the last column. -/
def rowAt (x : Arr) (r : Fin 4096) (k : ℕ) : EReal := if h : k < 16384 then x (ix2 r ⟨k, h⟩) else 0

/-- The sum of the first `n` columns of row `r`. -/
def pre (x : Arr) (r : Fin 4096) (n : ℕ) : EReal := ∑ k ∈ Finset.range n, rowAt x r k

/-- The row-wise cumulative sum: at `(r, j)` the sum of columns `0 … j` of row `r`. -/
def cum (x : Arr) : Arr := fun i => pre x (i 0) ((i 1).val + 1)

/-- Inside the array a row's column is the array's element. -/
theorem rowAt_of_lt (x : Arr) (r : Fin 4096) (k : ℕ) (h : k < 16384) : rowAt x r k = x (ix2 r ⟨k, h⟩) := dif_pos h

/-- The sum of no columns is zero. -/
theorem pre_zero (x : Arr) (r : Fin 4096) : pre x r 0 = 0 := Finset.sum_range_zero _

/-- The first `n + m` columns are the first `n` and the `m` after them. -/
theorem pre_add (x : Arr) (r : Fin 4096) (n m : ℕ) : pre x r (n + m) = pre x r n + ∑ k ∈ Finset.range m, rowAt x r (n + k) :=
  Finset.sum_range_add _ _ _

/-- A left fold that adds `g n` at each `n` of a list, started at `v`, is `v` plus the sum of the `g n`. -/
theorem foldl_add_map {β : Type} (g : β → EReal) (l : List β) (v : EReal) : l.foldl (fun r n => r + g n) v = v + (l.map g).sum := by
  induction l generalizing v with
  | nil => rw [List.foldl_nil, List.map_nil, List.sum_nil, add_zero]
  | cons a l ih => rw [List.foldl_cons, ih, List.map_cons, List.sum_cons, add_assoc]

/-- A window of 16384 positions that ends at column `j`: the positions before column 0 add nothing, the others sum columns
    `0 … j`. -/
theorem window_sum (f : ℕ → EReal) (j : ℕ) (hj : j < 16384) :
    ∑ n ∈ Finset.range 16384, (if 16383 ≤ j + n then f (j + n - 16383) else 0) = ∑ k ∈ Finset.range (j + 1), f k := by
  have e : 16384 = (16383 - j) + (j + 1) := by omega
  rw [e, Finset.sum_range_add, Finset.sum_eq_zero, zero_add]
  · refine Finset.sum_congr rfl fun k hk => ?_
    rw [if_pos (by omega)]
    exact congrArg f (by omega)
  · intro n hn
    have := Finset.mem_range.1 hn
    rw [if_neg (by omega)]

/-- The first `N` terms, those past `j` dropped, are the first `j + 1`. -/
theorem sum_upto (f : ℕ → EReal) (N j : ℕ) (hj : j < N) : ∑ k ∈ Finset.range N, (if k ≤ j then f k else 0) = ∑ k ∈ Finset.range (j + 1), f k := by
  obtain ⟨d, rfl⟩ : ∃ d, N = (j + 1) + d := ⟨N - (j + 1), by omega⟩
  rw [Finset.sum_range_add, Finset.sum_congr rfl fun k hk => if_pos (Nat.le_of_lt_succ (Finset.mem_range.1 hk)),
    Finset.sum_eq_zero fun k _ => if_neg (by omega), add_zero]

end Cert.Proof.Sums

end
-- ==== Proof.Chunks.lean ====
/-
  What the kernel's arithmetic is over the extended reals, for any mask that is the one the host builds: one chunk's product is
  the chunk's prefix sums (left half) and its whole sum (right half); the carry through a block's chunks; the carry through the
  blocks; and so the result array is the row-wise cumulative sum, of an array in which no element is +∞.
-/
module

public import proofs.«01_k».proof.Proof.KI.Launch
public import proofs.«01_k».proof.Proof.Sums
public import Idealize.ShloMosaic.Lib.MatmulPlain
public import Idealize.ShloMosaic.Lib.IdealHost
public import Idealize.ShloMosaic.Lib.ValueLayout

@[expose] public section

noncomputable section

namespace Cert.Proof.KI

open Cert.KernelIdeal Cert.KernelIdeal.Gen
open Idealize.ShloMosaic Idealize.ShloMosaic.TcCoe Idealize.ShloMosaic.ValueIdx Idealize.SL.Sem
open Idealize.ShloMosaic.Rounds
open scoped BigOperators

/-- The mask the host builds: an upper triangle of ones beside a square of ones, the pair stacked on itself. -/
def IsMask (v1 : FVec Ideal S256x256 .bf16) : Prop :=
  ∀ k j : Fin 256, v1 (ix2 k j) = if j.val < 128 then (if k.val % 128 ≤ j.val then 1 else 0) else 1

/-! ## One chunk -/

/-- An element that is not +∞ is the sum of its two parts, `x` and `x − x`; −∞ is, too. -/
theorem split_add (x : EReal) (hx : x ≠ ⊤) : x + (x - x) = x := by
  induction x with
  | bot => exact EReal.bot_add _
  | top => exact absurd rfl hx
  | coe r => rw [← EReal.coe_sub, sub_self, EReal.coe_zero, add_zero]

/-- Both parts of an element times a mask entry: the element where the entry is one, nothing where it is zero. -/
theorem split_mul (x : EReal) (hx : x ≠ ⊤) (p : Prop) [Decidable p] :
    x * (if p then 1 else 0) + (x - x) * (if p then 1 else 0) = if p then x else 0 := by
  by_cases hp : p
  · rw [if_pos hp, if_pos hp, mul_one, mul_one, split_add x hx]
  · rw [if_neg hp, if_neg hp, mul_zero, mul_zero, add_zero]

/-- The product's left operand: the chunk's columns, then what is left of them after the first part is taken away. -/
abbrev parts (xc : Vec Ideal S1x128x128 .f32) : FVec Ideal S128x256 .bf16 :=
  concatenate S128x256 1
    [⟨S128x128, (shapeCast S128x128 xc shapeCasts_S1x128x128_S128x128 : S128x128.Idx → EReal)⟩,
     ⟨S128x128, fun i => (shapeCast S128x128 xc shapeCasts_S1x128x128_S128x128 : S128x128.Idx → EReal) i
        - (shapeCast S128x128 xc shapeCasts_S1x128x128_S128x128 : S128x128.Idx → EReal) i⟩] concatenates_S128x128_S128x128_S128x256_d1

/-- The left operand's first 128 columns are the chunk's elements. -/
theorem parts_left (xc : Vec Ideal S1x128x128 .f32) (r k : Fin 128) :
    parts xc (ix2 r (Fin.castAdd 128 k)) = xc (ix3 (0 : Fin 1) r k) :=
  (concatenate_pair_apply_left (t := S128x256) (s₁ := S128x128) (s₂ := S128x128) 1 _ _ _ _ rfl (ix2 r k) (fun b => by
    match b with
    | ⟨0, _⟩ => rfl
    | ⟨1, _⟩ => rfl)).trans (shapeCast_1ab_ab_apply xc _ r k)

/-- Its last 128 columns are what is left of them. -/
theorem parts_right (xc : Vec Ideal S1x128x128 .f32) (r k : Fin 128) :
    parts xc (ix2 r (Fin.natAdd 128 k)) = (xc (ix3 (0 : Fin 1) r k) : EReal) - xc (ix3 (0 : Fin 1) r k) :=
  (concatenate_pair_apply_right (t := S128x256) (s₁ := S128x128) (s₂ := S128x128) 1 _ _ _ _ rfl rfl (ix2 r k) (fun b hb => by
    match b with
    | ⟨0, _⟩ => rfl
    | ⟨1, _⟩ => exact absurd rfl hb) (Nat.add_comm _ _)).trans
    (congrArg (fun z : EReal => z - z) (shapeCast_1ab_ab_apply xc _ r k))

/-- The kernel's dimension numbers are the plain product's. -/
theorem dot_plain : dot_S128x256_S256x256_S128x256_1_0_0_1_n_n = DotDims.plain 128 256 256 := rfl

/-- The chunk's product at `(r, j)`: the elements of row `r` that the mask's column `j` selects, summed. -/
theorem pay2_apply (v1 : FVec Ideal S256x256 .bf16) (hv : IsMask v1) (xc : Vec Ideal S1x128x128 .f32)
    (hx : ∀ r k : Fin 128, xc (ix3 (0 : Fin 1) r k) ≠ (⊤ : EReal)) (r : Fin 128) (j : Fin 256) :
    k0_pay2 v1 xc (ix2 r j) = ∑ k : Fin 128, if j.val < 128 → k.val ≤ j.val then (xc (ix3 (0 : Fin 1) r k) : EReal) else 0 := by
  have e : k0_pay2 v1 xc (ix2 r j) = (0 : EReal) + ∑ k : Fin 256, parts xc (ix2 r k) * v1 (ix2 k j) := by
    have h0 : (constant (F := Ideal) S128x256 .f32 0x00000000#32 : FVec Ideal S128x256 .f32) (ix2 r j) = (0 : EReal) := by
      show Ideal.ofBits .f32 0x00000000#32 = 0
      simp [Ideal.ofBits, Ideal.ieee]
    rw [← h0]
    exact Ideal.matmul_plain_apply (M := 128) (K := 256) (N := 256) (φ₁ := .bf16) (φ₂ := .bf16) none (parts xc) v1 (constant S128x256 .f32 0x00000000#32) r j
  rw [e, zero_add]
  refine (Fin.sum_univ_add (a := 128) (b := 128) (fun k : Fin 256 => parts xc (ix2 r k) * v1 (ix2 k j))).trans ?_
  rw [← Finset.sum_add_distrib]
  refine Finset.sum_congr rfl fun k _ => ?_
  have hk : k.val < 128 := k.isLt
  have m1 : v1 (ix2 (Fin.castAdd 128 k) j) = if j.val < 128 → k.val ≤ j.val then (1 : EReal) else 0 := by
    rw [hv]
    have : (Fin.castAdd 128 k).val % 128 = k.val := Nat.mod_eq_of_lt hk
    rw [this]
    by_cases hj : j.val < 128
    · simp only [hj, if_true, true_implies]
    · simp only [hj, if_false, false_implies, if_true]
  have m2 : v1 (ix2 (Fin.natAdd 128 k) j) = if j.val < 128 → k.val ≤ j.val then (1 : EReal) else 0 := by
    rw [hv]
    have : (Fin.natAdd 128 k).val % 128 = k.val := by show (128 + k.val) % 128 = k.val; omega
    rw [this]
    by_cases hj : j.val < 128
    · simp only [hj, if_true, true_implies]
    · simp only [hj, if_false, false_implies, if_true]
  rw [parts_left, parts_right, m1, m2]
  exact split_mul _ (hx r k) _

/-- Its left half: prefix sums of the chunk's row, the row given by a function of the column. -/
theorem pay2_left (v1 : FVec Ideal S256x256 .bf16) (hv : IsMask v1) (xc : Vec Ideal S1x128x128 .f32) (r : Fin 128) (f : ℕ → EReal)
    (hx : ∀ r k : Fin 128, xc (ix3 (0 : Fin 1) r k) ≠ (⊤ : EReal)) (hf : ∀ k : Fin 128, xc (ix3 (0 : Fin 1) r k) = f k.val)
    (j : Fin 128) : k0_pay2 v1 xc (ix2 r ⟨j.val, by omega⟩) = ∑ k ∈ Finset.range (j.val + 1), f k := by
  have hj : j.val < 128 := j.isLt
  rw [pay2_apply v1 hv xc hx]
  have e : ∀ k : Fin 128, (if j.val < 128 → k.val ≤ j.val then (xc (ix3 (0 : Fin 1) r k) : EReal) else 0)
      = (fun k : ℕ => if k ≤ j.val then f k else 0) k.val := fun k => by
    rw [hf k]; simp only [hj, true_implies]
  rw [Finset.sum_congr rfl fun k _ => e k, Fin.sum_univ_eq_sum_range (fun k : ℕ => if k ≤ j.val then f k else 0) 128]
  exact Sums.sum_upto f 128 j.val hj

/-- Its right half: the sum of the chunk's row. -/
theorem pay2_right (v1 : FVec Ideal S256x256 .bf16) (hv : IsMask v1) (xc : Vec Ideal S1x128x128 .f32) (r : Fin 128) (f : ℕ → EReal)
    (hx : ∀ r k : Fin 128, xc (ix3 (0 : Fin 1) r k) ≠ (⊤ : EReal)) (hf : ∀ k : Fin 128, xc (ix3 (0 : Fin 1) r k) = f k.val)
    (j : Fin 128) : k0_pay2 v1 xc (ix2 r ⟨128 + j.val, by omega⟩) = ∑ k ∈ Finset.range 128, f k := by
  rw [pay2_apply v1 hv xc hx, ← Fin.sum_univ_eq_sum_range f 128]
  refine Finset.sum_congr rfl fun k _ => ?_
  rw [if_pos fun h => absurd h (by show ¬ 128 + j.val < 128; omega)]
  exact hf k

/-! ## The chunks of a block -/

section block
variable (v1 : FVec Ideal S256x256 .bf16) (hv : IsMask v1) (X : Blk Ideal) (a0 : FVec Ideal S128x128 .f32) (g : Fin 128 → ℕ → EReal)
  (hX : ∀ (r : Fin 128) (k : Fin 8192), X (ix2 r k) = g r k.val) (hg : ∀ r k, g r k ≠ ⊤)
include hX

/-- Chunk `n` of a block, column `k`: the block's column `128 n + k`. -/
theorem xch_apply (n : ℕ) (hn : n < 64) (r k : Fin 128) : xch X n (ix3 (0 : Fin 1) r k) = g r (128 * n + k.val) := by
  have hk : k.val < 128 := k.isLt
  refine (hX r _).trans (congrArg (g r) ?_)
  show (128 * n + k.val) % 8192 = 128 * n + k.val
  omega

include hv hg

/-- The carry before chunk `n`: the carry at the block's start plus the row's first `128 n` columns. -/
theorem chunkAcc_apply (n : ℕ) (hn : n ≤ 64) (r j : Fin 128) :
    chunkAcc v1 X a0 n (ix2 r j) = (a0 (ix2 r j) : EReal) + ∑ k ∈ Finset.range (128 * n), g r k := by
  induction n with
  | zero => rw [Nat.mul_zero, Finset.sum_range_zero, add_zero]; rfl
  | succ n ih =>
    have hx : ∀ r k : Fin 128, xch X n (ix3 (0 : Fin 1) r k) ≠ (⊤ : EReal) := fun r k => by
      rw [xch_apply X g hX n (by omega)]; exact hg _ _
    have e : chunkAcc v1 X a0 (n + 1) (ix2 r j) = (chunkAcc v1 X a0 n (ix2 r j) : EReal) + k0_pay2 v1 (xch X n) (ix2 r ⟨128 + j.val, by omega⟩) :=
      congrArg (fun z : EReal => (chunkAcc v1 X a0 n (ix2 r j) : EReal) + z)
        (slice2_axis1_apply 128 (k0_pay2 v1 (xch X n)) slices_S128x256_o0_128_S128x128 r j ⟨128 + j.val, by omega⟩ rfl)
    rw [e, ih (by omega), pay2_right v1 hv (xch X n) r (fun k => g r (128 * n + k)) hx (xch_apply X g hX n (by omega) r),
      Nat.mul_succ, Finset.sum_range_add, add_assoc]

/-- A block's result: the carry at the block's start plus the row's columns up to and including this one. -/
theorem blkVal_apply (r : Fin 128) (j : Fin 8192) :
    blkVal v1 X a0 (ix2 r j) = (a0 (ix2 r ⟨j.val % 128, Nat.mod_lt _ (by decide)⟩) : EReal) + ∑ k ∈ Finset.range (j.val + 1), g r k := by
  have hj : j.val < 8192 := j.isLt
  have hn : j.val / 128 < 64 := by omega
  have hx : ∀ r k : Fin 128, xch X (j.val / 128) (ix3 (0 : Fin 1) r k) ≠ (⊤ : EReal) := fun r k => by
    rw [xch_apply X g hX _ hn]; exact hg _ _
  have e : blkVal v1 X a0 (ix2 r j)
      = (k0_pay2 v1 (xch X (j.val / 128)) (ix2 r ⟨j.val % 128, by omega⟩) : EReal)
        + chunkAcc v1 X a0 (j.val / 128) (ix2 r ⟨j.val % 128, Nat.mod_lt _ (by decide)⟩) :=
    (shapeCast_ab_1ab_apply (addf (extractStridedSlice S128x128 ![0, 0] (k0_pay2 v1 (xch X (j.val / 128))) slices_S128x256_o0_0_S128x128)
        (chunkAcc v1 X a0 (j.val / 128))) shapeCasts_S128x128_S1x128x128 (0 : Fin 1) r ⟨j.val % 128, Nat.mod_lt _ (by decide)⟩).trans
      (congrArg (fun z : EReal => z + chunkAcc v1 X a0 (j.val / 128) (ix2 r ⟨j.val % 128, Nat.mod_lt _ (by decide)⟩))
        (slice2_axis1_apply 0 (k0_pay2 v1 (xch X (j.val / 128))) slices_S128x256_o0_0_S128x128 r ⟨j.val % 128, Nat.mod_lt _ (by decide)⟩
          ⟨j.val % 128, by omega⟩ (Nat.zero_add _).symm))
  have es : ∑ k ∈ Finset.range (j.val + 1), g r k = ∑ k ∈ Finset.range (128 * (j.val / 128)), g r k
      + ∑ k ∈ Finset.range (j.val % 128 + 1), g r (128 * (j.val / 128) + k) := by
    rw [← Finset.sum_range_add]
    exact congrArg (fun N => ∑ k ∈ Finset.range N, g r k) (by omega)
  have el := pay2_left v1 hv (xch X (j.val / 128)) r (fun k => g r (128 * (j.val / 128) + k)) hx (xch_apply X g hX _ hn r) ⟨j.val % 128, by omega⟩
  rw [e, chunkAcc_apply v1 hv X a0 g hX hg _ (by omega), es]
  refine (congrArg (fun z : EReal => z + _) el).trans ?_
  rw [add_comm, add_assoc]

end block

/-! ## The blocks -/

/-- The carry that a row of blocks starts from is zero. -/
theorem zero_apply (i : S128x128.Idx) : (k0_pay218 : FVec Ideal S128x128 .f32) i = (0 : EReal) := by
  show Ideal.ofBits .f32 0x00000000#32 = 0
  simp [Ideal.ofBits, Ideal.ieee]

section blocks
variable (c : Dev nD) (XA : FVec Ideal S4096x16384 .f32) (v1 : FVec Ideal S256x256 .bf16)

/-- Row `r` of block `k`, as a row of the array. -/
abbrev rowOf (k : ℕ) (hk : k < 64) (r : Fin 128) : Fin 4096 := ⟨k / 2 * 128 + r.val, by omega⟩

/-- Block `k` at `(r, j)` is the array's element at block `k`'s row `r`, column `j` of its half. -/
theorem xval_apply (k : ℕ) (hk : k < 64) (r : Fin 128) (j : Fin 8192) :
    xval (F := Ideal) c XA (Ring.bk 64 k) (ix2 r j) = Sums.rowAt XA (rowOf k hk r) (8192 * (k % 2) + j.val) := by
  have hj : j.val < 8192 := j.isLt
  have hb : (Ring.bk 64 k).val = k := Nat.mod_eq_of_lt hk
  rw [Sums.rowAt_of_lt _ _ _ (by omega)]
  have e : (xblk (Ring.bk 64 k)).view.emb (ix2 r j) = (ix2 (rowOf k hk r) ⟨8192 * (k % 2) + j.val, by omega⟩ : S4096x16384.Idx) := by
    funext a; apply Fin.ext; fin_cases a
    · show (Ring.bk 64 k).val / 2 * 128 + 1 * r.val = k / 2 * 128 + r.val
      rw [hb]; omega
    · show (Ring.bk 64 k).val % 2 * 8192 + 1 * j.val = 8192 * (k % 2) + j.val
      rw [hb]; omega
  exact congrArg XA e

variable (hv : IsMask v1) (hT : ∀ i : S4096x16384.Idx, (XA i : EReal) ≠ ⊤)
include hT

/-- No column of a row is +∞, nor the zero past the last. -/
theorem rowAt_ne_top (r : Fin 4096) (k : ℕ) : Sums.rowAt XA r k ≠ ⊤ := by
  unfold Sums.rowAt
  split
  · exact hT _
  · exact EReal.zero_ne_top

include hv

/-- The carry before an odd block, the right half of a row of blocks, is the sum of the left half of the row. -/
theorem accSt_odd (k : ℕ) (hk : k < 64) (ho : k % 2 = 1) (r j : Fin 128) :
    accSt (F := Ideal) c XA v1 k (ix2 r j) = Sums.pre XA (rowOf k hk r) 8192 := by
  obtain ⟨q, rfl⟩ : ∃ q, k = q + 1 := ⟨k - 1, by omega⟩
  have hq : q % 2 = 0 := by omega
  have e : accSt (F := Ideal) c XA v1 (q + 1) = chunkAcc v1 (xval (F := Ideal) c XA (Ring.bk 64 q)) k0_pay218 64 := by
    show chunkAcc v1 (xval (F := Ideal) c XA (Ring.bk 64 q)) (startAcc q (accSt (F := Ideal) c XA v1 q)) 64 = _
    unfold startAcc; rw [if_pos hq]
  rw [e, chunkAcc_apply v1 hv _ _ (fun r k => Sums.rowAt XA (rowOf q (by omega) r) (8192 * (q % 2) + k)) (xval_apply c XA q (by omega))
    (fun _ _ => rowAt_ne_top XA hT _ _) 64 le_rfl, zero_apply, zero_add]
  have hr : rowOf (q + 1) hk r = rowOf q (by omega) r := Fin.ext (by show (q + 1) / 2 * 128 + r.val = q / 2 * 128 + r.val; omega)
  rw [hr, hq]
  exact Finset.sum_congr rfl fun k _ => congrArg (Sums.rowAt XA _) (by omega)

/-- Block `k` of the result: the sums of the array's row up to and including each column. -/
theorem outVal_apply (k : ℕ) (hk : k < 64) (r : Fin 128) (j : Fin 8192) :
    outVal (F := Ideal) c XA v1 k (ix2 r j) = Sums.pre XA (rowOf k hk r) (8192 * (k % 2) + (j.val + 1)) := by
  have h := blkVal_apply v1 hv _ (startAcc k (accSt (F := Ideal) c XA v1 k)) (fun r j => Sums.rowAt XA (rowOf k hk r) (8192 * (k % 2) + j)) (xval_apply c XA k hk)
    (fun _ _ => rowAt_ne_top XA hT _ _) r j
  refine h.trans ?_
  rw [Sums.pre_add]
  refine congrArg (fun z : EReal => z + ∑ i ∈ Finset.range (j.val + 1), Sums.rowAt XA (rowOf k hk r) (8192 * (k % 2) + i)) ?_
  rcases Nat.mod_two_eq_zero_or_one k with he | ho
  · unfold startAcc
    rw [if_pos he, zero_apply, he, Nat.mul_zero, Sums.pre_zero]
  · unfold startAcc
    rw [if_neg (by omega), accSt_odd c XA v1 hv hT k hk ho, ho, Nat.mul_one]

/-- The result array is the row-wise cumulative sum of the argument. -/
theorem outBuf_eq : outBuf (F := Ideal) c XA v1 = Sums.cum XA := by
  funext y
  have h0 : (y 0).val < 4096 := (y 0).isLt
  have h1 : (y 1).val < 16384 := (y 1).isLt
  refine (outVal_apply c XA v1 hv hT (blkOf y).val (blkOf y).isLt ⟨(y 0).val % 128, Nat.mod_lt _ (by decide)⟩
    ⟨(y 1).val % 8192, Nat.mod_lt _ (by decide)⟩).trans ?_
  have hb : (blkOf y).val = (y 0).val / 128 * 2 + (y 1).val / 8192 := rfl
  have er : rowOf (blkOf y).val (blkOf y).isLt ⟨(y 0).val % 128, Nat.mod_lt _ (by decide)⟩ = y 0 :=
    Fin.ext (by show (blkOf y).val / 2 * 128 + (y 0).val % 128 = (y 0).val; omega)
  rw [er]
  exact congrArg (Sums.pre XA (y 0)) (by show 8192 * ((blkOf y).val % 2) + ((y 1).val % 8192 + 1) = (y 1).val + 1; omega)

end blocks

end Cert.Proof.KI

end
-- ==== Proof.MaskValue.lean ====
/-
  The mask operand that the host builds and the kernel loads, entry by entry over the extended reals: ones on and above the
  diagonal of a 128-column square, a square of ones beside it, and the pair of squares stacked on itself.
-/
module

public import proofs.«01_k».proof.Proof.Chunks
public import Idealize.ShloMosaic.Lib.StableHlo.RunRead

@[expose] public section

noncomputable section

namespace Cert.Proof.KI

open Cert.KernelIdeal Cert.KernelIdeal.Gen
open Idealize.ShloMosaic Idealize.ShloMosaic.TcCoe Idealize.ShloMosaic.ValueIdx Idealize.SL.Sem

/-- The square of ones, as a host array. -/
abbrev ones : FVec Ideal S128x128 .bf16 := broadcastInDim S128x128 ![] bcast_S_S128x128 (constant (F := Ideal) S_ .bf16 0x3F80#16)
/-- The square of zeros. -/
abbrev zeros : FVec Ideal S128x128 .bf16 := broadcastInDim S128x128 ![] bcast_S_S128x128 (constant (F := Ideal) S_ .bf16 0x0000#16)
/-- Where the row is below the diagonal: row − 1 ≥ column, compared as signed words. -/
abbrev below : IVec S128x128 1 :=
  cmpi .sge (addi (iotaInDim S128x128 32 0) (broadcastInDim S128x128 ![] bcast_S_S128x128 (constantI S_ 32 4294967295#32))) (iotaInDim S128x128 32 1)
/-- The triangle: zero below the diagonal, one elsewhere. -/
abbrev tri : FVec Ideal S128x128 .bf16 := select below zeros ones
/-- The triangle beside the ones. -/
abbrev pair : FVec Ideal S128x256 .bf16 := concatenate S128x256 1 [⟨S128x128, tri⟩, ⟨S128x128, ones⟩] concatenates_S128x128_S128x128_S128x256_d1
/-- That on top of itself. -/
abbrev maskArr : FVec Ideal S256x256 .bf16 := concatenate S256x256 0 [⟨S128x256, pair⟩, ⟨S128x256, pair⟩] concatenates_S128x256_S128x256_S256x256_d0

/-- The square of ones holds one everywhere; -/
theorem ones_apply (i : S128x128.Idx) : ones i = (1 : EReal) := (broadcastInDim_scalar_apply _ _ i).trans Ideal.ofBits_one_bf16
/-- the square of zeros holds zero. -/
theorem zeros_apply (i : S128x128.Idx) : zeros i = (0 : EReal) := (broadcastInDim_scalar_apply _ _ i).trans Ideal.ofBits_zero_bf16

/-- On words: `r − 1 ≥ j`, signed, exactly when `j < r`; by going through the 128 × 128 cases. -/
theorem below_words : ∀ r j : Fin 128, (IntOp.cmpi .sge (BitVec.ofNat 32 r.val + 4294967295#32) (BitVec.ofNat 32 j.val) = 1#1) ↔ j.val < r.val := by
  decide +kernel

/-- An entry is below the diagonal exactly when its column is less than its row. -/
theorem below_iff (r j : Fin 128) : below (ix2 r j) = 1#1 ↔ j.val < r.val := by
  refine Iff.trans ?_ (below_words r j)
  have e : (broadcastInDim S128x128 ![] bcast_S_S128x128 (constantI S_ 32 4294967295#32) : IVec S128x128 32) (ix2 r j) = 4294967295#32 :=
    broadcastInDim_scalar_apply _ _ _
  show IntOp.cmpi .sge (BitVec.ofNat 32 r.val + (broadcastInDim S128x128 ![] bcast_S_S128x128 (constantI S_ 32 4294967295#32) : IVec S128x128 32) (ix2 r j)) (BitVec.ofNat 32 j.val) = 1#1 ↔ _
  rw [e]

/-- The triangle holds one where the row is at most the column, zero elsewhere. -/
theorem tri_apply (r j : Fin 128) : tri (ix2 r j) = if r.val ≤ j.val then (1 : EReal) else 0 := by
  show (if below (ix2 r j) = 1#1 then zeros (ix2 r j) else ones (ix2 r j)) = _
  rw [zeros_apply, ones_apply]
  by_cases h : j.val < r.val
  · rw [if_pos ((below_iff r j).2 h), if_neg (by omega)]
  · rw [if_neg fun h' => h ((below_iff r j).1 h'), if_pos (by omega)]

/-- The pair holds the triangle in its first 128 columns, one in the others. -/
theorem pair_apply (r : Fin 128) (j : Fin 256) : pair (ix2 r j) = if j.val < 128 then (if r.val ≤ j.val then (1 : EReal) else 0) else 1 := by
  by_cases hj : j.val < 128
  · rw [if_pos hj]
    exact (concatenate_pair_apply_left (t := S128x256) (s₁ := S128x128) (s₂ := S128x128) 1 _ _ _ _ rfl (ix2 r ⟨j.val, hj⟩) (fun b => by
      match b with
      | ⟨0, _⟩ => rfl
      | ⟨1, _⟩ => rfl)).trans (tri_apply r ⟨j.val, hj⟩)
  · rw [if_neg hj]
    exact (concatenate_pair_apply_right (t := S128x256) (s₁ := S128x128) (s₂ := S128x128) 1 _ _ _ _ rfl rfl (ix2 r ⟨j.val - 128, by omega⟩) (fun b hb => by
      match b with
      | ⟨0, _⟩ => rfl
      | ⟨1, _⟩ => exact absurd rfl hb) (by show j.val - 128 + 128 = j.val; omega)).trans (ones_apply _)

/-- The host's array is the mask that the chunks are proved for. -/
theorem maskArr_isMask : IsMask maskArr := by
  intro k j
  by_cases hk : k.val < 128
  · rw [Nat.mod_eq_of_lt hk]
    exact (concatenate_pair_apply_left (t := S256x256) (s₁ := S128x256) (s₂ := S128x256) 0 _ _ _ _ rfl (ix2 ⟨k.val, hk⟩ j) (fun b => by
      match b with
      | ⟨0, _⟩ => rfl
      | ⟨1, _⟩ => rfl)).trans (pair_apply ⟨k.val, hk⟩ j)
  · rw [show k.val % 128 = k.val - 128 by omega]
    exact (concatenate_pair_apply_right (t := S256x256) (s₁ := S128x256) (s₂ := S128x256) 0 _ _ _ _ rfl rfl (ix2 ⟨k.val - 128, by omega⟩ j) (fun b hb => by
      match b with
      | ⟨0, _⟩ => exact absurd rfl hb
      | ⟨1, _⟩ => rfl) (by show k.val - 128 + 128 = k.val; omega)).trans (pair_apply ⟨k.val - 128, by omega⟩ j)

variable (m : (ℓ : Loc nD τ sig) → Buf (Elt Ideal) ℓ)

/-- What the host's operations leave in the triangle's array, -/
theorem up_tri (V : Valuation τ sig (Elt Ideal)) :
    StableHlo.upto (hostOps0 (F := Ideal)) V 13 (Proc.devRef .tc main_call0_v1) = tri := by
  after_reads_simp
  simp -implicitDefEqProofs only [StableHlo.TRef.toBuf, StableHlo.TRef.ofBuf, cast_cast, cast_eq]

/-- in the second square's, -/
theorem up_ones (V : Valuation τ sig (Elt Ideal)) :
    StableHlo.upto (hostOps0 (F := Ideal)) V 13 (Proc.devRef .tc main_call0_v2) = ones := by
  after_reads_simp
  simp -implicitDefEqProofs only [StableHlo.TRef.toBuf, StableHlo.TRef.ofBuf, cast_cast, cast_eq]

/-- in the pair's. -/
theorem up_pair (V : Valuation τ sig (Elt Ideal)) :
    StableHlo.upto (hostOps0 (F := Ideal)) V 14 (Proc.devRef .tc main_call0_v3) = pair := by
  after_reads_simp
  simp -implicitDefEqProofs only [StableHlo.TRef.toBuf, StableHlo.TRef.ofBuf, cast_cast, cast_eq]
  exact congrArg₂ (fun a b : FVec Ideal S128x128 .bf16 => (concatenate S128x256 1 [⟨S128x128, a⟩, ⟨S128x128, b⟩] concatenates_S128x128_S128x128_S128x256_d1 : FVec Ideal S128x256 .bf16))
    (up_tri V) (up_ones V)

/-- Before the kernel starts the mask's array holds that value. -/
theorem V_mask (c : Dev nD) : V m c main_call0_v4 = maskArr := by
  unfold V
  after_reads_simp
  simp -implicitDefEqProofs only [StableHlo.TRef.toBuf, StableHlo.TRef.ofBuf, cast_cast, cast_eq]
  exact congrArg (fun a : FVec Ideal S128x256 .bf16 => (concatenate S256x256 0 [⟨S128x256, a⟩, ⟨S128x256, a⟩] concatenates_S128x256_S128x256_S256x256_d0 : FVec Ideal S256x256 .bf16))
    (up_pair fun b => m (c, b))

/-- What the kernel loads as its mask is that value. -/
theorem mask_eq (c : Dev nD) : mask m c = maskArr := by
  have e : Gen.iblk m c 0 t0_0 = V m c main_call0_v4 := by
    funext i
    refine congrArg (V m c main_call0_v4) (?_ : ((cfg0.win 0).blk t0_0).view.emb i = i)
    funext a; apply Fin.ext
    fin_cases a
    · show 0 * 256 + 1 * (i 0).val = (i 0).val; omega
    · show 0 * 256 + 1 * (i 1).val = (i 1).val; omega
  unfold mask maskOf
  rw [e, V_mask, View.readAt_rep]
  funext i
  refine (congrFun (shapeCast_self (fun y => maskArr (R00.idx y)) shapeCasts_S256x256_S256x256) i).trans (congrArg maskArr ?_)
  funext a; apply Fin.ext
  fin_cases a
  · show 0 + 1 * (i 0).val = (i 0).val; omega
  · show 0 + 1 * (i 1).val = (i 1).val; omega

end Cert.Proof.KI

end
-- ==== Proof.Ref.lean ====
/-
  The reference program's run and its value: three host operations, the last a windowed sum along each row. For any float
  values every execution ends with the result buffer at `refOut` of the argument and the argument unchanged (`run_main`);
  over the extended reals `refOut x` is the row-wise cumulative sum of `x` (`refOut_eq`).
-/
module

public import proofs.«01_k».proof.Proof.Gen.ReferenceIdeal
public import proofs.«01_k».proof.Proof.Sums
public import Idealize.ShloMosaic.Lib.StableHlo.Run
public import Idealize.ShloMosaic.Lib.IdealHost
public import Idealize.ShloMosaic.Lib.ValueLayout
public import Idealize.ShloMosaic.Lib.ShapeFacts

@[expose] public section

noncomputable section

namespace Cert.Proof.Ref

open Cert.ReferenceIdeal Cert.ReferenceIdeal.Gen
open Idealize.ShloMosaic Idealize.ShloMosaic.TcCoe Idealize.ShloMosaic.StableHlo Idealize.SL.Sem Idealize.ShloMosaic.ValueIdx
open scoped BigOperators

variable {F : FTy → Type} [FloatOps F]

/-- The scalar zero that the sum starts from. -/
abbrev zeroS : FVec F S_ .f32 := broadcastInDim S_ ![] bcast_S_S_ (constant S_ .f32 0x00000000#32)

/-- The reference's result from its argument: the sum over the window of 16384 columns that ends at each column. -/
abbrev refOut (x : FVec F S4096x16384 .f32) : FVec F S4096x16384 .f32 :=
  Host.reduceWindowAdd ![1, 16384] ![1, 1] ![0, 16383] ![0, 0] x (zeroS (F := F)) reduceWindows_S4096x16384_S4096x16384_w1s1p0_0_w16384s1p16383_0 h_S_

/-- The program's operations, in order. -/
abbrev ops : List (HloOp τ sig (Elt F)) :=
  [ nullary main_call0_call0_cst (constant S_ .f32 0x00000000#32),
    unary main_call0_call0_cst main_call0_call0_v0 (broadcastInDim S_ ![] bcast_S_S_),
    binary main_arg0 main_call0_call0_v0 main_v0 (fun x v => Host.reduceWindowAdd ![1, 16384] ![1, 1] ![0, 16383] ![0, 0] x v
      reduceWindows_S4096x16384_S4096x16384_w1s1p0_0_w16384s1p16383_0 h_S_) ]

/-- The program is that straight line. -/
theorem main_eq (c : Dev nD) : main (F := F) c = seq ops := rfl

/-- After the operations the result buffer holds `refOut` of the argument. -/
theorem out_eq (V : Valuation τ sig (Elt F)) : after ops V (main_v0 : DevRef τ sig) = refOut (V (main_arg0 : DevRef τ sig)) := by
  after_results

/-- No operation writes the argument. -/
theorem arg0_eq (V : Valuation τ sig (Elt F)) : after ops V (main_arg0 : DevRef τ sig) = V (main_arg0 : DevRef τ sig) := by
  after_results

/-- No buffer of the reference is scoped; -/
theorem scopedRefs_eq : (Finset.univ.filter fun b : Ref sig .tc => b.isScoped) = ∅ := by decide
/-- it has no semaphore. -/
theorem scopedSems_eq : (Finset.univ.filter fun sm : SemLoc sig => sm.isScoped .tc) = ∅ := by decide

/-- Every operation touches buffers of the core only. -/
theorem ops_sub : (ops : List (HloOp τ sig (Elt F))).Forall fun op => op.bufs ⊆ tcRefs τ sig :=
  ⟨nullary_bufs_sub .., unary_bufs_sub .., binary_bufs_sub ..⟩

/-- Every execution of the reference terminates with the result at `refOut` of the argument, the argument unchanged and every
    semaphore counter zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v0) = refOut (m ((c.tc : Thread nD τ).loc main_arg0))
        ∧ r.2.mem ((c.tc : Thread nD τ).loc main_arg0) = m ((c.tc : Thread nD τ).loc main_arg0)) ∧ r.2.sem = fun _ => 0 :=
  (θ_run defs _ _).mono (fun r h => ⟨fun c => ⟨(h c main_v0).trans (out_eq _), (h c main_arg0).trans (arg0_eq _)⟩,
      sem_eq_zero_of_no_sems (by decide) r.2⟩)
    (run_seq scopedRefs_eq scopedSems_eq defs main (fun _ => ops) main_eq (fun _ => ops_sub) m ρ)

/-! ## The value over the extended reals -/

/-- A window one row high and 16384 columns wide has 16384 positions. -/
theorem numel_window : (⟨2, ![1, 16384]⟩ : Shape).numel = 16384 := (Shape.numel_rank2 _).trans (by decide)

/-- Position `n` of the window is its row 0, column `n`. -/
theorem window_pos (n : Fin (⟨2, ![1, 16384]⟩ : Shape).numel) :
    (⟨2, ![1, 16384]⟩ : Shape).rowMajor.symm n = ix2 (0 : Fin 1) (⟨n.val, lt_of_lt_of_eq n.isLt numel_window⟩ : Fin 16384) := by
  rw [Equiv.symm_apply_eq]
  apply Fin.ext
  rw [Shape.rowMajor_val_two]
  show n.val = 0 * 16384 + n.val
  omega

/-- The scalar that the sum starts from is the real zero. -/
theorem zeroS_apply (i : S_.Idx) : zeroS (F := Ideal) i = 0 := by
  show Ideal.ofBits .f32 0x00000000#32 = 0
  simp [Ideal.ofBits, Ideal.ieee]

/-- The fold over the window that ends at each column, started at zero, is the row-wise cumulative sum. -/
theorem window_fold (x : S4096x16384.Idx → EReal) (v : S_.Idx → EReal) (h : S4096x16384.ReduceWindows (![1, 16384] : Fin 2 → Nat) ![1, 1] ![0, 16383] ![0, 0] S4096x16384)
    (hu : 0 < S_.numel) (hv : v (Shape.Idx.first hu) = 0) (i : S4096x16384.Idx) :
    Host.reduceWindow (· + ·) ![1, 16384] ![1, 1] ![0, 16383] ![0, 0] x v h hu i = Sums.cum x i := by
  have hi : (i 1).val < 16384 := (i 1).isLt
  unfold Host.reduceWindow
  dsimp only
  rw [Sums.foldl_add_map, hv, zero_add, ← Fin.sum_univ_def]
  refine Eq.trans (Finset.sum_congr rfl fun n _ => ?_) ((Fin.sum_univ_eq_sum_range
    (fun n => if 16383 ≤ (i 1).val + n then Sums.rowAt x (i 0) ((i 1).val + n - 16383) else 0) _).trans
    ((congrArg (fun N => ∑ n ∈ Finset.range N, (if 16383 ≤ (i 1).val + n then Sums.rowAt x (i 0) ((i 1).val + n - 16383) else 0)) numel_window).trans
    (Sums.window_sum (Sums.rowAt x (i 0)) (i 1).val hi)))
  have hn : n.val < 16384 := lt_of_lt_of_eq n.isLt numel_window
  have hp0 : ((⟨2, ![1, 16384]⟩ : Shape).rowMajor.symm n 0).val = 0 := by rw [window_pos]; rfl
  have hp1 : ((⟨2, ![1, 16384]⟩ : Shape).rowMajor.symm n 1).val = n.val := by rw [window_pos]
  by_cases hle : 16383 ≤ (i 1).val + n.val
  · rw [if_pos hle, Sums.rowAt_of_lt x (i 0) _ (by omega), dif_pos]
    · refine congrArg x (funext fun a => Fin.ext ?_)
      match a with
      | ⟨0, _⟩ =>
        show (i 0).val * 1 + ((⟨2, ![1, 16384]⟩ : Shape).rowMajor.symm n 0).val - 0 = (i 0).val
        rw [hp0]; omega
      | ⟨1, _⟩ =>
        show (i 1).val * 1 + ((⟨2, ![1, 16384]⟩ : Shape).rowMajor.symm n 1).val - 16383 = (i 1).val + n.val - 16383
        rw [hp1]; omega
    · intro a
      match a with
      | ⟨0, _⟩ =>
        have h0 : (i 0).val < 4096 := (i 0).isLt
        show 0 ≤ (i 0).val * 1 + ((⟨2, ![1, 16384]⟩ : Shape).rowMajor.symm n 0).val ∧ (i 0).val * 1 + ((⟨2, ![1, 16384]⟩ : Shape).rowMajor.symm n 0).val - 0 < 4096
        rw [hp0]; omega
      | ⟨1, _⟩ =>
        show 16383 ≤ (i 1).val * 1 + ((⟨2, ![1, 16384]⟩ : Shape).rowMajor.symm n 1).val ∧ (i 1).val * 1 + ((⟨2, ![1, 16384]⟩ : Shape).rowMajor.symm n 1).val - 16383 < 16384
        rw [hp1]; omega
  · rw [if_neg hle, dif_neg]
    intro hin
    have h1 := (hin 1).1
    change 16383 ≤ (i 1).val * 1 + ((⟨2, ![1, 16384]⟩ : Shape).rowMajor.symm n 1).val at h1
    rw [hp1] at h1
    omega

/-- Over the extended reals the reference's result is the row-wise cumulative sum. -/
theorem refOut_eq (x : FVec Ideal S4096x16384 .f32) : refOut x = Sums.cum x := by
  unfold refOut Host.reduceWindowAdd
  rw [Ideal.hostReduceWindowAdd_def]
  unfold Ideal.hostReduceWindowAdd
  funext i
  exact window_fold x _ _ _ (zeroS_apply _) i

end Cert.Proof.Ref

end
-- ==== Proof.lean ====
/-
  The certificate of a row-wise cumulative sum: the kernel (a ring of manual copies, each chunk of 128 columns summed by one
  product with a mask) against the plain cumulative sum along each row. The kernel's run is `KI.run_final` (its twin for the
  program as printed, `K.run_final`); what it leaves in the result is `KI.outBuf_eq` with `KI.mask_eq`; the reference's run
  is `Ref.run_main` and its value `Ref.refOut_eq`.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.K.Launch
public import proofs.«01_k».proof.Proof.KI.Launch
public import proofs.«01_k».proof.Proof.Chunks
public import proofs.«01_k».proof.Proof.MaskValue
public import proofs.«01_k».proof.Proof.Ref
public import Idealize.ShloMosaic.Adequacy
public import Idealize.ShloMosaic.Init

@[expose] public section

noncomputable section

namespace Cert.Proof

open Idealize.ShloMosaic Idealize.ShloMosaic.TcCoe Idealize.ShloMosaic.ValueIdx Idealize.SL.Sem

/-- The precondition's one side condition. -/
instance pre_facts : Cert.Pre_no_pos_inf.Facts where
  bcast_S_S4096x16384 := by decide

/-- The word of +∞ is +∞. -/
theorem inf_word : Ideal.ofBits .f32 0x7F800000#32 = ⊤ := by simp [Ideal.ofBits, Ideal.ieee]

/-- Where the precondition holds no element is +∞. -/
theorem ne_top_of_pre (x : FVec Ideal Cert.Pre_no_pos_inf.S4096x16384 .f32) (h : Cert.Pre_no_pos_inf.fn x = fun _ => 1#1)
    (i : Cert.Pre_no_pos_inf.S4096x16384.Idx) : (x i : EReal) ≠ ⊤ := by
  have e := congrFun h i
  intro ht
  have e' : Ideal.cmp .olt (x i) (Ideal.ofBits .f32 0x7F800000#32) = 1#1 := e
  rw [ht, inf_word] at e'
  simp [Ideal.cmp] at e'

/-- The kernel as printed runs to completion without fault, leaves its argument unchanged and every semaphore counter zero. -/
theorem frame_kernel : Cert.quiescent_Kernel := fun m ρ _ =>
  (θ_run Cert.Kernel.defs _ _).mono (fun _ h => ⟨fun c => (h.1 c).1, h.2⟩) (K.run_final (F := Bits) m ρ)

/-- So does the kernel over the extended reals, -/
theorem frame_kernelIdeal : Cert.quiescent_KernelIdeal := fun m ρ _ =>
  (θ_run Cert.KernelIdeal.defs _ _).mono (fun _ h => ⟨fun c => (h.1 c).1, h.2⟩) (KI.run_final (F := Ideal) m ρ)

/-- also where the precondition holds. -/
theorem frame_kernelIdeal_pre : Cert.quiescent_KernelIdeal_pre_no_pos_inf := fun m ρ _ =>
  (θ_run Cert.KernelIdeal.defs _ _).mono (fun _ h => ⟨fun c => (h.1 c).1, h.2⟩) (KI.run_final (F := Ideal) m ρ)

/-- So does the reference, -/
theorem frame_reference : Cert.quiescent_ReferenceIdeal := fun m ρ _ =>
  (θ_run Cert.ReferenceIdeal.defs _ _).mono (fun _ h => ⟨fun c => (h.1 c).2, h.2⟩) (Ref.run_main (F := Ideal) m ρ)

/-- also where the precondition holds. -/
theorem frame_reference_pre : Cert.quiescent_ReferenceIdeal_pre_no_pos_inf := fun m ρ _ =>
  (θ_run Cert.ReferenceIdeal.defs _ _).mono (fun _ h => ⟨fun c => (h.1 c).2, h.2⟩) (Ref.run_main (F := Ideal) m ρ)

/-- Of an argument in which no element is +∞, both programs leave the row-wise cumulative sum. -/
theorem algebraic : Cert.algebraic_KernelIdeal_ReferenceIdeal_pre_no_pos_inf := by
  intro m ρ m' ρ' hpre hagree
  refine ⟨fun c => Sums.cum (m ((c.tc : Thread Cert.KernelIdeal.nD Cert.KernelIdeal.τ).loc Cert.KernelIdeal.main_arg0)), ?_, ?_⟩
  · refine (θ_run Cert.KernelIdeal.defs _ _).mono (fun r h c => ⟨((h.1 c).2).trans ?_, (h.1 c).1⟩) (KI.run_final (F := Ideal) m ρ)
    exact KI.outBuf_eq c _ _ (by rw [KI.mask_eq]; exact KI.maskArr_isMask) (ne_top_of_pre _ (hpre c))
  · refine (θ_run Cert.ReferenceIdeal.defs _ _).mono (fun r h c => ⟨((h.1 c).1).trans ?_, (h.1 c).2⟩) (Ref.run_main (F := Ideal) m' ρ')
    exact (Ref.refOut_eq _).trans (congrArg Sums.cum (hagree c))

/-- Everything the certificate claims. -/
theorem claim : Cert.Claim := ⟨Cert.Kernel.Gen.facts, Cert.KernelIdeal.Gen.facts, Cert.ReferenceIdeal.Gen.facts, pre_facts,
  frame_kernel, frame_kernelIdeal, frame_kernelIdeal_pre, frame_reference, frame_reference_pre, trivial, algebraic⟩

end Cert.Proof

end
